-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_a_fixed_point_multiplier [hPre_a_fixed_point_multiplier : Cert.Pre_a_fixed_point_multiplier.Facts] (m : (ℓ : Loc Cert.KernelIdeal.nD Cert.KernelIdeal.τ Cert.KernelIdeal.sig) → Buf (Elt Ideal) ℓ) : Prop :=
  ∀ c : Dev Cert.KernelIdeal.nD,
    (Cert.Pre_a_fixed_point_multiplier.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_a_fixed_point_multiplier.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_a_fixed_point_multiplier [hPre_a_fixed_point_multiplier : Cert.Pre_a_fixed_point_multiplier.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_a_fixed_point_multiplier.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_a_fixed_point_multiplier.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_a_fixed_point_multiplier [hKernelIdeal : Cert.KernelIdeal.Facts] [hPre_a_fixed_point_multiplier : Cert.Pre_a_fixed_point_multiplier.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_a_fixed_point_multiplier m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_a_fixed_point_multiplier [hReferenceIdeal : Cert.ReferenceIdeal.Facts] [hPre_a_fixed_point_multiplier : Cert.Pre_a_fixed_point_multiplier.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_a_fixed_point_multiplier m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_a_fixed_point_multiplier [hKernelIdeal : Cert.KernelIdeal.Facts] [hReferenceIdeal : Cert.ReferenceIdeal.Facts] [hPre_a_fixed_point_multiplier : Cert.Pre_a_fixed_point_multiplier.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_a_fixed_point_multiplier m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_a_fixed_point_multiplier : Cert.Pre_a_fixed_point_multiplier.Facts),
    quiescent_Kernel (hKernel := hKernel)
    ∧ quiescent_KernelIdeal (hKernelIdeal := hKernelIdeal)
    ∧ quiescent_KernelIdeal_pre_a_fixed_point_multiplier (hKernelIdeal := hKernelIdeal) (hPre_a_fixed_point_multiplier := hPre_a_fixed_point_multiplier)
    ∧ quiescent_ReferenceIdeal (hReferenceIdeal := hReferenceIdeal)
    ∧ quiescent_ReferenceIdeal_pre_a_fixed_point_multiplier (hReferenceIdeal := hReferenceIdeal) (hPre_a_fixed_point_multiplier := hPre_a_fixed_point_multiplier)
    ∧ preserves_Kernel_KernelIdeal
    ∧ algebraic_KernelIdeal_ReferenceIdeal_pre_a_fixed_point_multiplier (hKernelIdeal := hKernelIdeal) (hReferenceIdeal := hReferenceIdeal) (hPre_a_fixed_point_multiplier := hPre_a_fixed_point_multiplier)
-- ==== Pre_a_fixed_point_multiplier.lean ====
abbrev S24x1024x7168 : Shape := ⟨3, ![24, 1024, 7168]⟩
abbrev S_ : Shape := ⟨0, ![]⟩
abbrev S2048x7168 : Shape := ⟨2, ![2048, 7168]⟩
abbrev S2048 : Shape := ⟨1, ![2048]⟩

class Facts : Prop where
  bcast_S_S2048 : S_.BroadcastsInDim S2048 (![] : Fin 0 → Fin S2048.rank)

variable [Facts]

def fn {F : FTy → Type} [FloatOps F] (main_arg0 : IVec S24x1024x7168 8) (main_arg1 : IVec S_ 32) (main_arg2 : IVec S2048x7168 8) (main_arg3 : IVec S2048 32) (main_arg4 : IVec S2048 32) (main_arg5 : IVec S2048 32) (main_arg6 : IVec S_ 32) : IVec S2048 1 × IVec S2048 1 :=
  let main_c : IVec S_ 32 := constantI S_ 32 0#32
  let main_v0 : IVec S2048 32 := broadcastInDim S2048 ![] bcast_S_S2048 main_c
  let main_v1 : IVec S2048 1 := cmpi .sge main_arg4 main_v0
  let main_c_0 : IVec S_ 32 := constantI S_ 32 1#32
  let main_v2 : IVec S2048 32 := broadcastInDim S2048 ![] bcast_S_S2048 main_c_0
  let main_v3 : IVec S2048 1 := cmpi .sge main_arg5 main_v2
  let main_c_1 : IVec S_ 32 := constantI S_ 32 31#32
  let main_v4 : IVec S2048 32 := broadcastInDim S2048 ![] bcast_S_S2048 main_c_1
  let main_v5 : IVec S2048 1 := cmpi .sle main_arg5 main_v4
  let main_v6 : IVec S2048 1 := andi main_v3 main_v5
  (main_v1, main_v6)
-- ==== Kernel.lean ====
abbrev S24x1024x7168 : Shape := ⟨3, ![24, 1024, 7168]⟩
abbrev S_ : Shape := ⟨0, ![]⟩
abbrev S2048x7168 : Shape := ⟨2, ![2048, 7168]⟩
abbrev S2048 : Shape := ⟨1, ![2048]⟩
abbrev S1 : Shape := ⟨1, ![1]⟩
abbrev S24576x7168 : Shape := ⟨2, ![24576, 7168]⟩
abbrev S1x2048 : Shape := ⟨2, ![1, 2048]⟩
abbrev S24576x2048 : Shape := ⟨2, ![24576, 2048]⟩
abbrev S512x7168 : Shape := ⟨2, ![512, 7168]⟩
abbrev S512x2048 : Shape := ⟨2, ![512, 2048]⟩
abbrev S8x2048 : Shape := ⟨2, ![8, 2048]⟩
abbrev S16x7168 : Shape := ⟨2, ![16, 7168]⟩
abbrev S256x7168 : Shape := ⟨2, ![256, 7168]⟩
abbrev S16x256 : Shape := ⟨2, ![16, 256]⟩
abbrev S8x256 : Shape := ⟨2, ![8, 256]⟩
abbrev S512x1024 : Shape := ⟨2, ![512, 1024]⟩
abbrev S256x1024 : Shape := ⟨2, ![256, 1024]⟩
abbrev S512x256 : Shape := ⟨2, ![512, 256]⟩
abbrev S1x256 : Shape := ⟨2, ![1, 256]⟩

abbrev nBuf : Space → Nat
  | .hbm => 14
  | .vmem => 9
  | .smem => 2
  | _ => 0

abbrev bufTy : (tb : Table) → Fin (tcTables nBuf tb) → BufTy
  | .hbm, ⟨0, _⟩ => ⟨S24x1024x7168, .i8⟩
  | .hbm, ⟨1, _⟩ => ⟨S_, .i32⟩
  | .hbm, ⟨2, _⟩ => ⟨S2048x7168, .i8⟩
  | .hbm, ⟨3, _⟩ => ⟨S2048, .i32⟩
  | .hbm, ⟨4, _⟩ => ⟨S2048, .i32⟩
  | .hbm, ⟨5, _⟩ => ⟨S2048, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S24576x7168, .i8⟩
  | .hbm, ⟨10, _⟩ => ⟨S1x2048, .i32⟩
  | .hbm, ⟨11, _⟩ => ⟨S1x2048, .i32⟩
  | .hbm, ⟨12, _⟩ => ⟨S1x2048, .i32⟩
  | .hbm, ⟨13, _⟩ => ⟨S24576x2048, .i8⟩
  | .local _ .vmem, ⟨0, _⟩ => ⟨S512x7168, .i8⟩
  | .local _ .vmem, ⟨1, _⟩ => ⟨S512x7168, .i8⟩
  | .local _ .vmem, ⟨2, _⟩ => ⟨S2048x7168, .i8⟩
  | .local _ .vmem, ⟨3, _⟩ => ⟨S1x2048, .i32⟩
  | .local _ .vmem, ⟨4, _⟩ => ⟨S1x2048, .i32⟩
  | .local _ .vmem, ⟨5, _⟩ => ⟨S1x2048, .i32⟩
  | .local _ .vmem, ⟨6, _⟩ => ⟨S512x2048, .i8⟩
  | .local _ .vmem, ⟨7, _⟩ => ⟨S512x2048, .i8⟩
  | .local _ .vmem, ⟨8, _⟩ => ⟨S8x2048, .i32⟩
  | .local _ .smem, ⟨0, _⟩ => ⟨S1, .i32⟩
  | .local _ .smem, ⟨1, _⟩ => ⟨S1, .i32⟩
  | _, _ => ⟨S24x1024x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg7_1 : Ref sig .tc := ⟨.vmem, 7, rfl⟩
abbrev cc0_scratch0 : Ref sig .tc := ⟨.vmem, 8, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![48], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x7168 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x7168 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S24x1024x7168 : Shape := ⟨3, ![24, 1024, 7168]⟩
abbrev S_ : Shape := ⟨0, ![]⟩
abbrev S2048x7168 : Shape := ⟨2, ![2048, 7168]⟩
abbrev S2048 : Shape := ⟨1, ![2048]⟩
abbrev S24x1024x1x7168 : Shape := ⟨4, ![24, 1024, 1, 7168]⟩
abbrev S1x1x2048x7168 : Shape := ⟨4, ![1, 1, 2048, 7168]⟩
abbrev S24x1024x2048x7168 : Shape := ⟨4, ![24, 1024, 2048, 7168]⟩
abbrev S24x1024x2048 : Shape := ⟨3, ![24, 1024, 2048]⟩
abbrev S1x1x2048 : Shape := ⟨3, ![1, 1, 2048]⟩
abbrev S24576x2048 : Shape := ⟨2, ![24576, 2048]⟩

abbrev nBuf : Space → Nat
  | .hbm => 126
  | .vmem => 0
  | .smem => 0
  | _ => 0

abbrev bufTy : (tb : Table) → Fin (tcTables nBuf tb) → BufTy
  | .hbm, ⟨0, _⟩ => ⟨S24x1024x7168, .i8⟩
  | .hbm, ⟨1, _⟩ => ⟨S_, .i32⟩
  | .hbm, ⟨2, _⟩ => ⟨S2048x7168, .i8⟩
  | .hbm, ⟨3, _⟩ => ⟨S2048, .i32⟩
  | .hbm, ⟨4, _⟩ => ⟨S2048, .i32⟩
  | .hbm, ⟨5, _⟩ => ⟨S2048, .i32⟩
  | .hbm, ⟨6, _⟩ => ⟨S_, .i32⟩
  | .hbm, ⟨7, _⟩ => ⟨S2048x7168, .i32⟩
  | .hbm, ⟨8, _⟩ => ⟨S_, .i32⟩
  | .hbm, ⟨9, _⟩ => ⟨S2048, .i32⟩
  | .hbm, ⟨10, _⟩ => ⟨S24x1024x7168, .i32⟩
  | .hbm, ⟨11, _⟩ => ⟨S2048x7168, .i32⟩
  | .hbm, ⟨12, _⟩ => ⟨S24x1024x1x7168, .i32⟩
  | .hbm, ⟨13, _⟩ => ⟨S1x1x2048x7168, .i32⟩
  | .hbm, ⟨14, _⟩ => ⟨S24x1024x2048x7168, .i32⟩
  | .hbm, ⟨15, _⟩ => ⟨S24x1024x2048x7168, .i32⟩
  | .hbm, ⟨16, _⟩ => ⟨S24x1024x2048x7168, .i32⟩
  | .hbm, ⟨17, _⟩ => ⟨S_, .i32⟩
  | .hbm, ⟨18, _⟩ => ⟨S24x1024x2048, .i32⟩
  | .hbm, ⟨19, _⟩ => ⟨S2048, .i32⟩
  | .hbm, ⟨20, _⟩ => ⟨S2048, .i32⟩
  | .hbm, ⟨21, _⟩ => ⟨S1x1x2048, .i32⟩
  | .hbm, ⟨22, _⟩ => ⟨S24x1024x2048, .i32⟩
  | .hbm, ⟨23, _⟩ => ⟨S24x1024x2048, .i32⟩
  | .hbm, ⟨24, _⟩ => ⟨S1x1x2048, .i32⟩
  | .hbm, ⟨25, _⟩ => ⟨S24x1024x2048, .i32⟩
  | .hbm, ⟨26, _⟩ => ⟨S24x1024x2048, .i32⟩
  | .hbm, ⟨27, _⟩ => ⟨S_, .i32⟩
  | .hbm, ⟨28, _⟩ => ⟨S24x1024x2048, .i32⟩
  | .hbm, ⟨29, _⟩ => ⟨S24x1024x2048, .i1⟩
  | .hbm, ⟨30, _⟩ => ⟨S24x1024x2048, .i32⟩
  | .hbm, ⟨31, _⟩ => ⟨S24x1024x2048, .i32⟩
  | .hbm, ⟨32, _⟩ => ⟨S24x1024x2048, .i32⟩
  | .hbm, ⟨33, _⟩ => ⟨S2048, .i32⟩
  | .hbm, ⟨34, _⟩ => ⟨S_, .i32⟩
  | .hbm, ⟨35, _⟩ => ⟨S24x1024x2048, .i32⟩
  | .hbm, ⟨36, _⟩ => ⟨S24x1024x2048, .i32⟩
  | .hbm, ⟨37, _⟩ => ⟨S_, .i32⟩
  | .hbm, ⟨38, _⟩ => ⟨S24x1024x2048, .i32⟩
  | .hbm, ⟨39, _⟩ => ⟨S24x1024x2048, .i32⟩
  | .hbm, ⟨40, _⟩ => ⟨S_, .i32⟩
  | .hbm, ⟨41, _⟩ => ⟨S2048, .i32⟩
  | .hbm, ⟨42, _⟩ => ⟨S2048, .i32⟩
  | .hbm, ⟨43, _⟩ => ⟨S_, .i32⟩
  | .hbm, ⟨44, _⟩ => ⟨S2048, .i32⟩
  | .hbm, ⟨45, _⟩ => ⟨S2048, .i32⟩
  | .hbm, ⟨46, _⟩ => ⟨S1x1x2048, .i32⟩
  | .hbm, ⟨47, _⟩ => ⟨S24x1024x2048, .i32⟩
  | .hbm, ⟨48, _⟩ => ⟨S24x1024x2048, .i32⟩
  | .hbm, ⟨49, _⟩ => ⟨S1x1x2048, .i32⟩
  | .hbm, ⟨50, _⟩ => ⟨S24x1024x2048, .i32⟩
  | .hbm, ⟨51, _⟩ => ⟨S24x1024x2048, .i32⟩
  | .hbm, ⟨52, _⟩ => ⟨S1x1x2048, .i32⟩
  | .hbm, ⟨53, _⟩ => ⟨S24x1024x2048, .i32⟩
  | .hbm, ⟨54, _⟩ => ⟨S24x1024x2048, .i32⟩
  | .hbm, ⟨55, _⟩ => ⟨S24x1024x2048, .i32⟩
  | .hbm, ⟨56, _⟩ => ⟨S1x1x2048, .i32⟩
  | .hbm, ⟨57, _⟩ => ⟨S24x1024x2048, .i32⟩
  | .hbm, ⟨58, _⟩ => ⟨S24x1024x2048, .i32⟩
  | .hbm, ⟨59, _⟩ => ⟨S_, .i32⟩
  | .hbm, ⟨60, _⟩ => ⟨S24x1024x2048, .i32⟩
  | .hbm, ⟨61, _⟩ => ⟨S24x1024x2048, .i32⟩
  | .hbm, ⟨62, _⟩ => ⟨S24x1024x2048, .i32⟩
  | .hbm, ⟨63, _⟩ => ⟨S24x1024x2048, .i1⟩
  | .hbm, ⟨64, _⟩ => ⟨S24x1024x2048, .i32⟩
  | .hbm, ⟨65, _⟩ => ⟨S_, .i32⟩
  | .hbm, ⟨66, _⟩ => ⟨S24x1024x2048, .i32⟩
  | .hbm, ⟨67, _⟩ => ⟨S24x1024x2048, .i32⟩
  | .hbm, ⟨68, _⟩ => ⟨S24x1024x2048, .i32⟩
  | .hbm, ⟨69, _⟩ => ⟨S24x1024x2048, .i32⟩
  | .hbm, ⟨70, _⟩ => ⟨S_, .i32⟩
  | .hbm, ⟨71, _⟩ => ⟨S_, .i32⟩
  | .hbm, ⟨72, _⟩ => ⟨S24x1024x2048, .i32⟩
  | .hbm, ⟨73, _⟩ => ⟨S24x1024x2048, .i32⟩
  | .hbm, ⟨74, _⟩ => ⟨S24x1024x2048, .i32⟩
  | .hbm, ⟨75, _⟩ => ⟨S24x1024x2048, .i32⟩
  | .hbm, ⟨76, _⟩ => ⟨S24x1024x2048, .i1⟩
  | .hbm, ⟨77, _⟩ => ⟨S24x1024x2048, .i32⟩
  | .hbm, ⟨78, _⟩ => ⟨S24x1024x2048, .i32⟩
  | .hbm, ⟨79, _⟩ => ⟨S_, .i32⟩
  | .hbm, ⟨80, _⟩ => ⟨S24x1024x2048, .i32⟩
  | .hbm, ⟨81, _⟩ => ⟨S24x1024x2048, .i32⟩
  | .hbm, ⟨82, _⟩ => ⟨S_, .i32⟩
  | .hbm, ⟨83, _⟩ => ⟨S24x1024x2048, .i32⟩
  | .hbm, ⟨84, _⟩ => ⟨S24x1024x2048, .i32⟩
  | .hbm, ⟨85, _⟩ => ⟨S24x1024x2048, .i32⟩
  | .hbm, ⟨86, _⟩ => ⟨S24x1024x2048, .i32⟩
  | .hbm, ⟨87, _⟩ => ⟨S24x1024x2048, .i32⟩
  | .hbm, ⟨88, _⟩ => ⟨S24x1024x2048, .i32⟩
  | .hbm, ⟨89, _⟩ => ⟨S_, .i32⟩
  | .hbm, ⟨90, _⟩ => ⟨S2048, .i32⟩
  | .hbm, ⟨91, _⟩ => ⟨S2048, .i32⟩
  | .hbm, ⟨92, _⟩ => ⟨S_, .i32⟩
  | .hbm, ⟨93, _⟩ => ⟨S2048, .i32⟩
  | .hbm, ⟨94, _⟩ => ⟨S2048, .i32⟩
  | .hbm, ⟨95, _⟩ => ⟨S1x1x2048, .i32⟩
  | .hbm, ⟨96, _⟩ => ⟨S24x1024x2048, .i32⟩
  | .hbm, ⟨97, _⟩ => ⟨S24x1024x2048, .i32⟩
  | .hbm, ⟨98, _⟩ => ⟨S_, .i32⟩
  | .hbm, ⟨99, _⟩ => ⟨S2048, .i32⟩
  | .hbm, ⟨100, _⟩ => ⟨S2048, .i32⟩
  | .hbm, ⟨101, _⟩ => ⟨S_, .i32⟩
  | .hbm, ⟨102, _⟩ => ⟨S24x1024x2048, .i32⟩
  | .hbm, ⟨103, _⟩ => ⟨S24x1024x2048, .i1⟩
  | .hbm, ⟨104, _⟩ => ⟨S24x1024x2048, .i32⟩
  | .hbm, ⟨105, _⟩ => ⟨S1x1x2048, .i32⟩
  | .hbm, ⟨106, _⟩ => ⟨S24x1024x2048, .i32⟩
  | .hbm, ⟨107, _⟩ => ⟨S24x1024x2048, .i32⟩
  | .hbm, ⟨108, _⟩ => ⟨S1x1x2048, .i32⟩
  | .hbm, ⟨109, _⟩ => ⟨S24x1024x2048, .i32⟩
  | .hbm, ⟨110, _⟩ => ⟨S24x1024x2048, .i32⟩
  | .hbm, ⟨111, _⟩ => ⟨S24x1024x2048, .i1⟩
  | .hbm, ⟨112, _⟩ => ⟨S24x1024x2048, .i32⟩
  | .hbm, ⟨113, _⟩ => ⟨S24x1024x2048, .i32⟩
  | .hbm, ⟨114, _⟩ => ⟨S24x1024x2048, .i32⟩
  | .hbm, ⟨115, _⟩ => ⟨S24x1024x2048, .i32⟩
  | .hbm, ⟨116, _⟩ => ⟨S_, .i32⟩
  | .hbm, ⟨117, _⟩ => ⟨S_, .i32⟩
  | .hbm, ⟨118, _⟩ => ⟨S_, .i32⟩
  | .hbm, ⟨119, _⟩ => ⟨S24x1024x2048, .i32⟩
  | .hbm, ⟨120, _⟩ => ⟨S24x1024x2048, .i32⟩
  | .hbm, ⟨121, _⟩ => ⟨S_, .i32⟩
  | .hbm, ⟨122, _⟩ => ⟨S24x1024x2048, .i32⟩
  | .hbm, ⟨123, _⟩ => ⟨S24x1024x2048, .i32⟩
  | .hbm, ⟨124, _⟩ => ⟨S24x1024x2048, .i8⟩
  | .hbm, ⟨125, _⟩ => ⟨S24576x2048, .i8⟩
  | _, _ => ⟨S24x1024x7168, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_7 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_8 : Ref sig .tc := ⟨.hbm, 70, rfl⟩
abbrev main_c_9 : Ref sig .tc := ⟨.hbm, 71, rfl⟩
abbrev main_call1_v0 : Ref sig .tc := ⟨.hbm, 72, rfl⟩
abbrev main_call1_v1 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_10 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c_12 : Ref sig .tc := ⟨.hbm, 89, rfl⟩
abbrev main_v67 : Ref sig .tc := ⟨.hbm, 90, rfl⟩
abbrev main_v68 : Ref sig .tc := ⟨.hbm, 91, rfl⟩
abbrev main_c_13 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_c_14 : Ref sig .tc := ⟨.hbm, 98, rfl⟩
abbrev main_v74 : Ref sig .tc := ⟨.hbm, 99, rfl⟩
abbrev main_v75 : Ref sig .tc := ⟨.hbm, 100, rfl⟩
abbrev main_c_15 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_c_16 : Ref sig .tc := ⟨.hbm, 116, rfl⟩
abbrev main_c_17 : Ref sig .tc := ⟨.hbm, 117, rfl⟩
abbrev main_call3_v0 : Ref sig .tc := ⟨.hbm, 118, rfl⟩
abbrev main_call3_v1 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩

abbrev nD : Nat := 1
abbrev τ : Topo := Topo.v7x

variable {F : FTy → Type} [FloatOps F]
-- ==== Proof.Words.lean ====
/-
  Sums of products of 8-bit words, at the exact real instance and as 32-bit words: a real product sum of signed 8-bit words, rounded and
  converted to 32 bits, is the 32-bit word of the integer product sum; a host reduction by addition over one axis is such a sum.
-/
module

public import Idealize.ShloMosaic.Lib.Pointwise
public import Mathlib.Data.BitVec
public import Mathlib.Algebra.BigOperators.Fin
public import Mathlib.Tactic.Linarith
public import Mathlib.Tactic.NormNum

@[expose] public section

set_option maxRecDepth 16384
noncomputable section

namespace Cert.Hand

open Idealize.ShloMosaic

/-- A real integer within 32 bits, rounded and converted, is its word. -/
theorem fptosi_round (z : ℤ) (h1 : -2147483648 ≤ z) (h2 : z ≤ 2147483647) :
    FloatOps.fptosi (F := Ideal) (φ := .f32) 32 (Ideal.liftRound Ideal.roundHalfEven ((z : ℝ) : EReal)) = BitVec.ofInt 32 z := by
  have hr : Ideal.roundHalfEven (z : ℝ) = z := by
    unfold Ideal.roundHalfEven
    simp
  show Ideal.fptosi 32 _ = _
  rw [Ideal.liftRound_coe, hr, Ideal.fptosi, Ideal.toIntClamped_coe, Int.floor_intCast, Int.ceil_intCast, ite_self]
  congr 1
  norm_num
  omega

/-- The word of an integer sum is the sum of the words. -/
theorem ofInt_sum {K : ℕ} (f : Fin K → ℤ) : BitVec.ofInt 32 (∑ k, f k) = ∑ k, BitVec.ofInt 32 (f k) := by
  induction (Finset.univ : Finset (Fin K)) using Finset.cons_induction with
  | empty => rfl
  | cons a S ha ih => rw [Finset.sum_cons, Finset.sum_cons, BitVec.ofInt_add, ih]

/-- The real sum of integers is the integer sum. -/
theorem coe_sum {K : ℕ} (f : Fin K → ℤ) : (∑ k, ((f k : ℝ) : EReal)) = (((∑ k, f k : ℤ) : ℝ) : EReal) := by
  induction (Finset.univ : Finset (Fin K)) using Finset.cons_induction with
  | empty => simp
  | cons a S ha ih => rw [Finset.sum_cons, Finset.sum_cons, ih, ← EReal.coe_add, Int.cast_add]

/-- A sum of integers, each at most `c` in magnitude, is at most `K * c` in magnitude. -/
theorem sum_bound {K : ℕ} (f : Fin K → ℤ) (c : ℤ) (h : ∀ k, -c ≤ f k ∧ f k ≤ c) : -(K * c) ≤ ∑ k, f k ∧ ∑ k, f k ≤ K * c := by
  have h1 := Finset.sum_le_card_nsmul Finset.univ f c (fun k _ => (h k).2)
  have h2 := Finset.card_nsmul_le_sum Finset.univ f (-c) (fun k _ => (h k).1)
  simp only [Finset.card_univ, Fintype.card_fin, nsmul_eq_mul] at h1 h2
  exact ⟨by linarith, h1⟩

/-- A signed 8-bit word is from −128 to 127. -/
theorem toInt8 (x : BitVec 8) : -128 ≤ x.toInt ∧ x.toInt ≤ 127 := by
  have h1 := BitVec.toInt_lt (x := x)
  have h2 := BitVec.le_toInt (x := x)
  norm_num at h1 h2
  omega

/-- A real product sum of at most 65536 signed 8-bit words, rounded and converted, is the product sum of the sign-extended words. -/
theorem dot_word {K : ℕ} (hK : K ≤ 65536) (x w : Fin K → BitVec 8) :
    FloatOps.fptosi (F := Ideal) (φ := .f32) 32 (Ideal.liftRound Ideal.roundHalfEven
        (∑ k, FloatOps.sitofp (F := Ideal) .bf16 (x k) * FloatOps.sitofp (F := Ideal) .bf16 (w k)))
      = ∑ k, (x k).signExtend 32 * (w k).signExtend 32 := by
  have hs : (∑ k, (FloatOps.sitofp (F := Ideal) .bf16 (x k) : EReal) * (FloatOps.sitofp (F := Ideal) .bf16 (w k) : EReal))
      = (((∑ k, (x k).toInt * (w k).toInt : ℤ) : ℝ) : EReal) := by
    rw [← coe_sum]
    refine Finset.sum_congr rfl fun k _ => ?_
    show (((x k).toInt : ℝ) : EReal) * (((w k).toInt : ℝ) : EReal) = _
    rw [← EReal.coe_mul, Int.cast_mul]
  have hb := sum_bound (fun k => (x k).toInt * (w k).toInt) 16384 (fun k => by
    have h1 := toInt8 (x k)
    have h2 := toInt8 (w k)
    constructor <;> nlinarith)
  refine (congrArg (fun z => FloatOps.fptosi (F := Ideal) (φ := .f32) 32 (Ideal.liftRound Ideal.roundHalfEven z)) hs).trans ?_
  rw [fptosi_round _ (by have : (K : ℤ) ≤ 65536 := by exact_mod_cast hK
                         linarith [hb.1]) (by have : (K : ℤ) ≤ 65536 := by exact_mod_cast hK
                                              linarith [hb.2]), ofInt_sum]
  refine Finset.sum_congr rfl fun k _ => ?_
  rw [BitVec.ofInt_mul]
  rfl

/-- A real sum of at most 65536 signed 8-bit words, rounded and converted, is the sum of the sign-extended words. -/
theorem sum_word {K : ℕ} (hK : K ≤ 65536) (w : Fin K → BitVec 8) :
    FloatOps.fptosi (F := Ideal) (φ := .f32) 32 (Ideal.liftRound Ideal.roundHalfEven (∑ k, FloatOps.sitofp (F := Ideal) .bf16 (w k)))
      = ∑ k, (w k).signExtend 32 := by
  have hs : (∑ k, (FloatOps.sitofp (F := Ideal) .bf16 (w k) : EReal)) = (((∑ k, (w k).toInt : ℤ) : ℝ) : EReal) := by
    rw [← coe_sum]
    rfl
  have hb := sum_bound (fun k => (w k).toInt) 128 (fun k => by
    have h2 := toInt8 (w k)
    constructor <;> linarith)
  refine (congrArg (fun z => FloatOps.fptosi (F := Ideal) (φ := .f32) 32 (Ideal.liftRound Ideal.roundHalfEven z)) hs).trans ?_
  have hK' : (K : ℤ) ≤ 65536 := by exact_mod_cast hK
  rw [fptosi_round _ (by linarith [hb.1]) (by linarith [hb.2]), ofInt_sum]
  rfl

/-- A fold of word addition from zero is the sum. -/
theorem fold_addi {ι : Type} (S : Finset ι) (f : ι → BitVec 32) : S.fold IntOp.addi 0#32 f = ∑ i ∈ S, f i := by
  induction S using Finset.cons_induction with
  | empty => rfl
  | cons a S ha ih => rw [Finset.fold_cons, Finset.sum_cons, ih]; rfl

/-- A sum over 7168 terms is the sum of its seven blocks of 1024. -/
theorem sum_blocks (f : ℕ → BitVec 32) :
    ∑ k : Fin 7168, f k.val = ((((((∑ k : Fin 1024, f k.val) + ∑ k : Fin 1024, f (1024 + k.val)) + ∑ k : Fin 1024, f (2048 + k.val))
      + ∑ k : Fin 1024, f (3072 + k.val)) + ∑ k : Fin 1024, f (4096 + k.val)) + ∑ k : Fin 1024, f (5120 + k.val))
      + ∑ k : Fin 1024, f (6144 + k.val) := by
  rw [Fin.sum_univ_eq_sum_range f, Fin.sum_univ_eq_sum_range f, Fin.sum_univ_eq_sum_range (fun k => f (1024 + k)),
    Fin.sum_univ_eq_sum_range (fun k => f (2048 + k)), Fin.sum_univ_eq_sum_range (fun k => f (3072 + k)),
    Fin.sum_univ_eq_sum_range (fun k => f (4096 + k)), Fin.sum_univ_eq_sum_range (fun k => f (5120 + k)),
    Fin.sum_univ_eq_sum_range (fun k => f (6144 + k)), show 7168 = 1024 + 1024 + 1024 + 1024 + 1024 + 1024 + 1024 by rfl]
  simp only [Finset.sum_range_add]

end Cert.Hand
end
-- ==== Proof.Requant.lean ====
/- The requantisation of one entry, as the kernel spells it and as the reference spells it, and that the two words agree for a
   multiplier that is not negative and a shift from 1 to 31. No vectors here: 32-bit words only. -/
module

public import Idealize.ShloMosaic.PureOps
public import Mathlib.Data.BitVec
public import Mathlib.Tactic.Linarith
public import Mathlib.Tactic.NormNum
public import Mathlib.Tactic.Ring

@[expose] public section

noncomputable section

namespace Cert.Hand

open Idealize.ShloMosaic

/-! ## The kernel's word -/

/-- The sign-extended low half of the multiplier. -/
def kBl (b : BitVec 32) : BitVec 32 := IntOp.shrsi .vector (IntOp.shli .vector b 16#32) 16#32

/-- The high half that goes with it. -/
def kBh (b : BitVec 32) : BitVec 32 := IntOp.shrui .vector (IntOp.subi b (kBl b)) 16#32

/-- Half of the high half. -/
def kHalf (b : BitVec 32) : BitVec 32 := IntOp.shrsi .vector (kBh b) 1#32

/-- The constant of the middle digit. -/
def kK1 (b e : BitVec 32) : BitVec 32 :=
  IntOp.subi (Scalar.select (IntOp.cmpi .eq e 1#32) 49152#32 16384#32) (IntOp.shli .vector (kHalf b) 16#32)

/-- The constant of the high digit. -/
def kK2 (b e : BitVec 32) : BitVec 32 :=
  IntOp.addi (kHalf b) (Scalar.select (IntOp.cmpi .eq e 1#32) 0#32 (IntOp.shli .vector 1#32 (IntOp.maxsi (IntOp.subi e 2#32) 0#32)))

/-- The middle digit of the product. -/
def kMid (a b e : BitVec 32) : BitVec 32 :=
  IntOp.addi (IntOp.addi (IntOp.addi
      (IntOp.addi (IntOp.muli (IntOp.shrsi .vector a 16#32) (kBl b)) (IntOp.muli (IntOp.andi a 65535#32) (kBh b)))
      (IntOp.shrsi .vector (IntOp.muli (IntOp.andi a 65535#32) (kBl b)) 16#32))
    (kK1 b e)) (IntOp.andi (IntOp.shrsi .vector a 16#32) 4294934528#32)

/-- The high digit of the product. -/
def kHi (a b e : BitVec 32) : BitVec 32 :=
  IntOp.addi (IntOp.addi (IntOp.muli (IntOp.shrsi .vector a 16#32) (kBh b)) (kK2 b e)) (IntOp.shrsi .vector (kMid a b e) 16#32)

/-- The kernel's rescaled accumulator. -/
def kScaled (a b e : BitVec 32) : BitVec 32 := IntOp.shrsi .vector (kHi a b e) (IntOp.subi e 1#32)

/-! ## The reference's word -/

/-- The magnitude of the accumulator. -/
def rAbs (a : BitVec 32) : BitVec 32 := Scalar.select (IntOp.cmpi .slt a 0#32) (-a) a

/-- The product of the low halves. -/
def rLL (a b : BitVec 32) : BitVec 32 := IntOp.muli (IntOp.andi (rAbs a) 65535#32) (IntOp.andi b 65535#32)

/-- The sum of the two mixed products. -/
def rMid (a b : BitVec 32) : BitVec 32 :=
  IntOp.addi (IntOp.muli (IntOp.shrui .host (rAbs a) 16#32) (IntOp.andi b 65535#32))
    (IntOp.muli (IntOp.andi (rAbs a) 65535#32) (IntOp.shrui .host b 16#32))

/-- The low word of the product. -/
def rLo (a b : BitVec 32) : BitVec 32 := IntOp.addi (rLL a b) (IntOp.shli .host (rMid a b) 16#32)

/-- The low word with the rounding term added. -/
def rLo2 (a b : BitVec 32) : BitVec 32 :=
  IntOp.addi (rLo a b) (Scalar.select (IntOp.cmpi .slt a 0#32) 1073741823#32 1073741824#32)

/-- The high word with both carries. -/
def rHi2 (a b : BitVec 32) : BitVec 32 :=
  IntOp.addi (IntOp.addi (IntOp.addi (IntOp.muli (IntOp.shrui .host (rAbs a) 16#32) (IntOp.shrui .host b 16#32))
      (IntOp.shrui .host (rMid a b) 16#32)) ((IntOp.cmpi .ult (rLo a b) (rLL a b)).setWidth 32))
    ((IntOp.cmpi .ult (rLo2 a b) (rLo a b)).setWidth 32)

/-- The magnitude of the rounded high part of the doubled product. -/
def rQ (a b : BitVec 32) : BitVec 32 := IntOp.ori (IntOp.shli .host (rHi2 a b) 1#32) (IntOp.shrui .host (rLo2 a b) 31#32)

/-- The reference's saturating rounding doubling high multiply. -/
def rSrdhm (a b : BitVec 32) : BitVec 32 := Scalar.select (IntOp.cmpi .slt a 0#32) (-(rQ a b)) (rQ a b)

/-- The mask of the bits shifted out. -/
def rMask (e : BitVec 32) : BitVec 32 := IntOp.subi (IntOp.shli .host 1#32 e) 1#32

/-- The reference's rounding division by a power of two. -/
def rRdbp (h e : BitVec 32) : BitVec 32 :=
  IntOp.addi (IntOp.shrsi .host h e)
    ((IntOp.cmpi .sgt (IntOp.andi h (rMask e))
      (IntOp.addi (IntOp.shrsi .host (rMask e) 1#32) ((IntOp.cmpi .slt h 0#32).setWidth 32))).setWidth 32)

/-! ## Words as integers -/

/-- A word that is the image of an integer in range reads back as that integer. -/
theorem toInt_of_eq {x : BitVec 32} {n : ℤ} (h : x = BitVec.ofInt 32 n) (h1 : -2147483648 ≤ n) (h2 : n < 2147483648) : x.toInt = n := by
  rw [h, BitVec.toInt_ofInt]
  simp only [Int.bmod_def]; omega

/-- A word as a natural number, from its reading as an integer. -/
theorem toNat_of_toInt (x : BitVec 32) : (x.toNat : ℤ) = if 0 ≤ x.toInt then x.toInt else x.toInt + 4294967296 := by
  rw [BitVec.toInt_eq_toNat_cond]
  have := x.isLt
  split <;> split <;> omega

/-- A shift right by 16 on the vector unit is the floor of a division. -/
theorem toInt_shrsi16 (x : BitVec 32) : (IntOp.shrsi .vector x 16#32).toInt = x.toInt / 65536 := by
  have : IntOp.shrsi .vector x 16#32 = x.sshiftRight 16 := rfl
  rw [this, BitVec.toInt_sshiftRight, Int.shiftRight_eq_div_pow]; norm_num

/-- A shift right by 1 on the vector unit is the floor of a division. -/
theorem toInt_shrsi1 (x : BitVec 32) : (IntOp.shrsi .vector x 1#32).toInt = x.toInt / 2 := by
  have : IntOp.shrsi .vector x 1#32 = x.sshiftRight 1 := rfl
  rw [this, BitVec.toInt_sshiftRight, Int.shiftRight_eq_div_pow]; norm_num

/-- The low half of a word, as a natural number. -/
theorem toNat_low (x : BitVec 32) : (IntOp.andi x 65535#32).toNat = x.toNat % 65536 := by
  show (x &&& 65535#32).toNat = _
  rw [BitVec.toNat_and]
  exact Nat.and_two_pow_sub_one_eq_mod x.toNat 16

/-- The low half of a word, as an integer. -/
theorem toInt_low (x : BitVec 32) : (IntOp.andi x 65535#32).toInt = x.toInt % 65536 := by
  have h := toNat_low x
  rw [BitVec.toInt_eq_toNat_cond, BitVec.toInt_eq_toNat_cond, h]
  have := x.isLt
  split <;> split <;> omega

/-! ## The kernel's digits as integers -/

/-- The kernel's low digit of the multiplier: its balanced residue. -/
theorem toInt_kBl (b : BitVec 32) : (kBl b).toInt = (b.toInt + 32768) % 65536 - 32768 := by
  have h : IntOp.shli .vector b 16#32 = b <<< 16 := rfl
  rw [kBl, toInt_shrsi16, h, BitVec.toInt_shiftLeft, Nat.shiftLeft_eq]
  have := b.isLt
  rw [BitVec.toInt_eq_toNat_cond]
  simp only [Int.bmod_def]
  push_cast
  split <;> split <;> omega

/-- The kernel's high digit of a multiplier that is not negative. -/
theorem toInt_kBh (b : BitVec 32) (hb : 0 ≤ b.toInt) : (kBh b).toInt = (b.toInt + 32768) / 65536 := by
  have h : kBh b = (b - kBl b) >>> 16 := rfl
  have hl := toInt_kBl b
  have h1 := toNat_of_toInt b
  have h2 := toNat_of_toInt (kBl b)
  have h3 : b.toInt < 2147483648 := by have := BitVec.toInt_lt (x := b); omega
  have hn : (kBh b).toNat = (b - kBl b).toNat / 65536 := by
    rw [h, BitVec.toNat_ushiftRight, Nat.shiftRight_eq_div_pow]
  rw [BitVec.toNat_sub] at hn
  have h4 := b.isLt
  have h5 := (kBl b).isLt
  rw [BitVec.toInt_eq_toNat_cond]
  rw [if_pos hb] at h1
  split at h2 <;> split <;> omega

/-- Half of the high digit. -/
theorem toInt_kHalf (b : BitVec 32) (hb : 0 ≤ b.toInt) : (kHalf b).toInt = (b.toInt + 32768) / 65536 / 2 := by
  rw [kHalf, toInt_shrsi1, toInt_kBh b hb]

/-- A comparison for equality that fails. -/
theorem cmpi_eq_of_ne {x y : BitVec 32} (h : x ≠ y) : IntOp.cmpi .eq x y = 0#1 := by
  show BitVec.ofBool (x == y) = _
  rw [beq_eq_false_iff_ne.mpr h]; rfl

/-- Half of the high digit, moved to the high half. -/
theorem shli_kHalf (b : BitVec 32) (hb : 0 ≤ b.toInt) :
    IntOp.shli .vector (kHalf b) 16#32 = BitVec.ofInt 32 ((b.toInt + 32768) / 65536 / 2 * 65536) := by
  have h : IntOp.shli .vector (kHalf b) 16#32 = kHalf b <<< 16 := rfl
  rw [h, BitVec.shiftLeft_eq_mul_twoPow, ← toInt_kHalf b hb, BitVec.ofInt_mul, BitVec.ofInt_toInt]
  rfl

/-- The middle constant. -/
theorem toInt_kK1 (b e : BitVec 32) (hb : 0 ≤ b.toInt) :
    (kK1 b e).toInt = (if e = 1#32 then 49152 else 16384) - (b.toInt + 32768) / 65536 / 2 * 65536 := by
  have h3 : b.toInt < 2147483648 := by have := BitVec.toInt_lt (x := b); omega
  have hs := shli_kHalf b hb
  have hsub : ∀ n : ℤ, BitVec.ofInt 32 (n - (b.toInt + 32768) / 65536 / 2 * 65536) = BitVec.ofInt 32 n - IntOp.shli .vector (kHalf b) 16#32 := by
    intro n
    rw [hs, Int.sub_eq_add_neg, BitVec.ofInt_add, BitVec.ofInt_neg, BitVec.sub_eq_add_neg]
  by_cases he : e = 1#32
  · rw [if_pos he]
    refine toInt_of_eq ?_ (by omega) (by omega)
    have hc : IntOp.cmpi .eq e 1#32 = 1#1 := by rw [he]; rfl
    rw [hsub, kK1, hc]; rfl
  · rw [if_neg he]
    refine toInt_of_eq ?_ (by omega) (by omega)
    rw [hsub, kK1, cmpi_eq_of_ne he]; rfl

/-- The shift's own part of the high constant, at a shift from 2 to 31. -/
theorem shli_part (e : BitVec 32) (h1 : 2 ≤ e.toNat) (h2 : e.toNat ≤ 31) :
    IntOp.shli .vector 1#32 (IntOp.maxsi (IntOp.subi e 2#32) 0#32) = BitVec.ofInt 32 (2 ^ (e.toNat - 2)) := by
  have hsub : (IntOp.subi e 2#32).toNat = e.toNat - 2 := by
    have : (IntOp.subi e 2#32) = e - 2#32 := rfl
    have h3 : (2#32).toNat = 2 := rfl
    rw [this, BitVec.toNat_sub, h3]; omega
  have hmax : IntOp.maxsi (IntOp.subi e 2#32) 0#32 = IntOp.subi e 2#32 := by
    unfold IntOp.maxsi
    split
    · rfl
    · rename_i hlt
      apply BitVec.eq_of_toNat_eq
      rw [BitVec.slt_iff_toInt_lt, BitVec.toInt_eq_toNat_cond (x := IntOp.subi e 2#32), hsub] at hlt
      have h0 : (0#32).toInt = 0 := rfl
      have h0' : (0#32).toNat = 0 := rfl
      rw [h0] at hlt
      rw [hsub, h0']
      split at hlt <;> omega
  rw [hmax]
  unfold IntOp.shli
  rw [if_pos (by rw [hsub]; omega)]
  have : ((2 : ℤ) ^ (e.toNat - 2)) = ((2 ^ (e.toNat - 2) : ℕ) : ℤ) := by push_cast; rfl
  rw [BitVec.shiftLeft_eq', hsub, this, BitVec.ofInt_natCast]
  apply BitVec.eq_of_toNat_eq
  rw [BitVec.toNat_shiftLeft, BitVec.toNat_ofNat, BitVec.toNat_ofNat, Nat.shiftLeft_eq, Nat.one_mod_two_pow (by norm_num), one_mul]

/-- The high constant, at a shift from 1 to 31. -/
theorem toInt_kK2 (b e : BitVec 32) (hb : 0 ≤ b.toInt) (h1 : 1 ≤ e.toNat) (h2 : e.toNat ≤ 31) :
    (kK2 b e).toInt = (b.toInt + 32768) / 65536 / 2 + (if e = 1#32 then 0 else 2 ^ (e.toNat - 2)) := by
  have h3 : b.toInt < 2147483648 := by have := BitVec.toInt_lt (x := b); omega
  by_cases he : e = 1#32
  · subst he
    have : kK2 b 1#32 = kHalf b := by
      show kHalf b + 0#32 = kHalf b
      exact BitVec.add_zero _
    rw [this, toInt_kHalf b hb, if_pos rfl, add_zero]
  · have hne : e.toNat ≠ 1 := fun h => he (BitVec.eq_of_toNat_eq (by rw [h]; rfl))
    have hp : (2 : ℤ) ^ (e.toNat - 2) ≤ 536870912 :=
      le_trans (pow_le_pow_right₀ (by norm_num) (by omega : e.toNat - 2 ≤ 29)) (by norm_num)
    have hp0 : (0 : ℤ) < 2 ^ (e.toNat - 2) := by positivity
    rw [if_neg he]
    refine toInt_of_eq ?_ (by omega) (by omega)
    rw [kK2, BitVec.ofInt_add, ← toInt_kHalf b hb, BitVec.ofInt_toInt, cmpi_eq_of_ne he, ← shli_part e (by omega) h2]
    rfl

/-- Masking the low bits off is a shift right and back. -/
theorem and_high (x : BitVec 32) (k : ℕ) : x &&& ((BitVec.allOnes 32 >>> k) <<< k) = (x >>> k) <<< k := by
  apply BitVec.eq_of_getLsbD_eq
  intro i hi
  by_cases h : i < k
  · simp [h]
  · have : k + (i - k) = i := by omega
    simp [-BitVec.reduceAllOnes, h, hi, this]

/-- Keeping the bits from the fifteenth up. -/
theorem toInt_high15 (x : BitVec 32) (h1 : -32768 ≤ x.toInt) (h2 : x.toInt < 32768) :
    (IntOp.andi x 4294934528#32).toInt = if x.toInt < 0 then -32768 else 0 := by
  have h : IntOp.andi x 4294934528#32 = (x >>> 15) <<< 15 := and_high x 15
  have hn : (IntOp.andi x 4294934528#32).toNat = x.toNat / 32768 * 32768 := by
    have := x.isLt
    rw [h, BitVec.toNat_shiftLeft, BitVec.toNat_ushiftRight, Nat.shiftLeft_eq, Nat.shiftRight_eq_div_pow]
    omega
  have hx := x.isLt
  have hx' := toNat_of_toInt x
  rw [BitVec.toInt_eq_toNat_cond, hn]
  split <;> split <;> split at hx' <;> omega

/-- The bounds of the products of the digits of two words, the second not negative. -/
theorem digit_bounds (u v w z : ℤ) (hu : -32768 ≤ u) (hu' : u < 32768) (hv : -32768 ≤ v) (hv' : v < 32768)
    (hw : 0 ≤ w) (hw' : w < 65536) (hz : 0 ≤ z) (hz' : z ≤ 32768) :
    0 ≤ w * z ∧ w * z ≤ 65535 * z
      ∧ (0 ≤ v → 0 ≤ w * v ∧ w * v ≤ 65535 * v) ∧ (v < 0 → 65535 * v ≤ w * v ∧ w * v ≤ 0)
      ∧ (0 ≤ u → 0 ≤ v → 0 ≤ u * v ∧ u * v ≤ 32767 * v) ∧ (0 ≤ u → v < 0 → 32767 * v ≤ u * v ∧ u * v ≤ 0)
      ∧ (u < 0 → 0 ≤ v → -32768 * v ≤ u * v ∧ u * v ≤ 0) ∧ (u < 0 → v < 0 → 0 ≤ u * v ∧ u * v ≤ -32768 * v)
      ∧ -32768 * z ≤ u * z ∧ u * z ≤ 32767 * z := by
  refine ⟨by positivity, by nlinarith, fun h => ⟨by positivity, by nlinarith⟩, fun h => ⟨by nlinarith, by nlinarith⟩,
    fun h h' => ⟨by positivity, by nlinarith⟩, fun h h' => ⟨by nlinarith, by nlinarith⟩, fun h h' => ⟨by nlinarith, by nlinarith⟩,
    fun h h' => ⟨by nlinarith, by nlinarith⟩, by nlinarith, by nlinarith⟩

/-- The middle digit as an integer: the sums of the kernel's words never leave the range of a word. -/
theorem toInt_kMid (a b e : BitVec 32) (hb : 0 ≤ b.toInt) :
    (kMid a b e).toInt = a.toInt / 65536 * ((b.toInt + 32768) % 65536 - 32768) + a.toInt % 65536 * ((b.toInt + 32768) / 65536)
      + a.toInt % 65536 * ((b.toInt + 32768) % 65536 - 32768) / 65536
      + ((if e = 1#32 then 49152 else 16384) - (b.toInt + 32768) / 65536 / 2 * 65536) + (if a.toInt < 0 then -32768 else 0) := by
  have ha1 := BitVec.toInt_lt (x := a)
  have ha2 := BitVec.le_toInt (x := a)
  have hb1 := BitVec.toInt_lt (x := b)
  norm_num at ha1 ha2 hb1
  have hah := toInt_shrsi16 a
  have hal := toInt_low a
  have hbl := toInt_kBl b
  have hbh := toInt_kBh b hb
  have hs := toInt_high15 (IntOp.shrsi .vector a 16#32) (by omega) (by omega)
  have hs' : (IntOp.andi (IntOp.shrsi .vector a 16#32) 4294934528#32).toInt = if a.toInt < 0 then -32768 else 0 := by
    rw [hs, hah]; split <;> split <;> omega
  have hk := toInt_kK1 b e hb
  obtain ⟨q1, q2, q3, q4, q5, q6, q7, q8, q9, q10⟩ := digit_bounds (a.toInt / 65536) ((b.toInt + 32768) % 65536 - 32768) (a.toInt % 65536)
    ((b.toInt + 32768) / 65536) (by omega) (by omega) (by omega) (by omega) (by omega) (by omega) (by omega) (by omega)
  have hp : (IntOp.muli (IntOp.andi a 65535#32) (kBl b)).toInt = a.toInt % 65536 * ((b.toInt + 32768) % 65536 - 32768) := by
    refine toInt_of_eq ?_ (by rcases lt_or_ge ((b.toInt + 32768) % 65536 - 32768) 0 with h | h <;> [have := q4 h; have := q3 h] <;> omega)
      (by rcases lt_or_ge ((b.toInt + 32768) % 65536 - 32768) 0 with h | h <;> [have := q4 h; have := q3 h] <;> omega)
    rw [BitVec.ofInt_mul, ← hal, ← hbl, BitVec.ofInt_toInt, BitVec.ofInt_toInt]; rfl
  have hp' := toInt_shrsi16 (IntOp.muli (IntOp.andi a 65535#32) (kBl b))
  rw [hp] at hp'
  refine toInt_of_eq ?_ ?_ ?_
  · rw [kMid, BitVec.ofInt_add, BitVec.ofInt_add, BitVec.ofInt_add, BitVec.ofInt_add, BitVec.ofInt_mul, BitVec.ofInt_mul,
      ← hs', ← hk, ← hp', ← hbh, ← hah, ← hbl, ← hal]
    simp only [BitVec.ofInt_toInt]
    rfl
  all_goals
    generalize a.toInt / 65536 * ((b.toInt + 32768) % 65536 - 32768) = p1 at *
    generalize a.toInt % 65536 * ((b.toInt + 32768) % 65536 - 32768) = p2 at *
    generalize a.toInt % 65536 * ((b.toInt + 32768) / 65536) = p3 at *
    rcases lt_or_ge ((b.toInt + 32768) % 65536 - 32768) 0 with h | h <;> rcases lt_or_ge (a.toInt / 65536) 0 with h' | h' <;>
      [have := q4 h; have := q4 h; have := q3 h; have := q3 h] <;> [have := q8 h' h; have := q6 h' h; have := q7 h' h; have := q5 h' h] <;>
      split <;> split <;> omega

/-- The high digit as an integer. -/
theorem toInt_kHi (a b e : BitVec 32) (hb : 0 ≤ b.toInt) (h1 : 1 ≤ e.toNat) (h2 : e.toNat ≤ 31) :
    (kHi a b e).toInt = a.toInt / 65536 * ((b.toInt + 32768) / 65536)
      + ((b.toInt + 32768) / 65536 / 2 + (if e = 1#32 then 0 else 2 ^ (e.toNat - 2))) + (kMid a b e).toInt / 65536 := by
  have ha1 := BitVec.toInt_lt (x := a)
  have ha2 := BitVec.le_toInt (x := a)
  have hb1 := BitVec.toInt_lt (x := b)
  have hm1 := BitVec.toInt_lt (x := kMid a b e)
  have hm2 := BitVec.le_toInt (x := kMid a b e)
  norm_num at ha1 ha2 hb1 hm1 hm2
  have hah := toInt_shrsi16 a
  have hbh := toInt_kBh b hb
  have hk := toInt_kK2 b e hb h1 h2
  have hm := toInt_shrsi16 (kMid a b e)
  obtain ⟨-, -, -, -, -, -, -, -, q9, q10⟩ := digit_bounds (a.toInt / 65536) ((b.toInt + 32768) % 65536 - 32768) (a.toInt % 65536)
    ((b.toInt + 32768) / 65536) (by omega) (by omega) (by omega) (by omega) (by omega) (by omega) (by omega) (by omega)
  have hp : (2 : ℤ) ^ (e.toNat - 2) ≤ 536870912 :=
    le_trans (pow_le_pow_right₀ (by norm_num) (by omega : e.toNat - 2 ≤ 29)) (by norm_num)
  have hp0 : (0 : ℤ) < 2 ^ (e.toNat - 2) := by positivity
  refine toInt_of_eq ?_ ?_ ?_
  · rw [kHi, BitVec.ofInt_add, BitVec.ofInt_add, BitVec.ofInt_mul, ← hm, ← hk, ← hbh, ← hah]
    simp only [BitVec.ofInt_toInt]
    rfl
  all_goals
    generalize a.toInt / 65536 * ((b.toInt + 32768) / 65536) = p1 at *
    split <;> omega

/-- The shift less one. -/
theorem toNat_pred (e : BitVec 32) (h1 : 1 ≤ e.toNat) : (IntOp.subi e 1#32).toNat = e.toNat - 1 := by
  have : IntOp.subi e 1#32 = e - 1#32 := rfl
  have h3 : (1#32).toNat = 1 := rfl
  have := e.isLt
  rw [‹IntOp.subi e 1#32 = _›, BitVec.toNat_sub, h3]; omega

/-- THE KERNEL'S WORD: the product with both rounding terms, divided by two to the shift plus thirty-one. -/
theorem toInt_kScaled (a b e : BitVec 32) (hb : 0 ≤ b.toInt) (h1 : 1 ≤ e.toNat) (h2 : e.toNat ≤ 31) :
    (kScaled a b e).toInt
      = ((a.toInt * b.toInt + 1073741824) / 2147483648 + (2 ^ (e.toNat - 1) - if a.toInt < 0 then 1 else 0)) / 2 / 2 ^ (e.toNat - 1) := by
  have hn := toNat_pred e h1
  have hs : kScaled a b e = (kHi a b e).sshiftRight (e.toNat - 1) := by
    rw [kScaled, IntOp.shrsi, if_pos (by rw [hn]; omega), BitVec.sshiftRight', hn]
  rw [hs, BitVec.toInt_sshiftRight, Int.shiftRight_eq_div_pow]
  push_cast
  congr 1
  rw [toInt_kHi a b e hb h1 h2, toInt_kMid a b e hb]
  have hA : a.toInt = a.toInt / 65536 * 65536 + a.toInt % 65536 := by omega
  have hB : b.toInt = (b.toInt + 32768) / 65536 * 65536 + ((b.toInt + 32768) % 65536 - 32768) := by omega
  have hAB : a.toInt * b.toInt = a.toInt / 65536 * ((b.toInt + 32768) / 65536) * 4294967296
      + (a.toInt / 65536 * ((b.toInt + 32768) % 65536 - 32768) + a.toInt % 65536 * ((b.toInt + 32768) / 65536)) * 65536
      + a.toInt % 65536 * ((b.toInt + 32768) % 65536 - 32768) := by
    conv_lhs => rw [hA, hB]
    ring
  rw [hAB]
  generalize a.toInt / 65536 * ((b.toInt + 32768) / 65536) = p1
  generalize a.toInt / 65536 * ((b.toInt + 32768) % 65536 - 32768) = p2
  generalize a.toInt % 65536 * ((b.toInt + 32768) / 65536) = p3
  generalize a.toInt % 65536 * ((b.toInt + 32768) % 65536 - 32768) = p4
  generalize (b.toInt + 32768) / 65536 / 2 = p5
  by_cases he : e = 1#32
  · subst he
    have hone : ((1#32 : BitVec 32).toNat - 1) = 0 := rfl
    rw [if_pos rfl, if_pos rfl, hone, pow_zero]
    split <;> omega
  · have hne : e.toNat ≠ 1 := fun h => he (BitVec.eq_of_toNat_eq (by rw [h]; rfl))
    have : e.toNat - 1 = (e.toNat - 2) + 1 := by omega
    rw [if_neg he, if_neg he, this, pow_succ]
    generalize (2 : ℤ) ^ (e.toNat - 2) = p6
    split <;> omega

/-! ## The reference's word as integers -/

/-- The comparison with zero, as a word. -/
theorem cmpi_slt_zero (x : BitVec 32) : IntOp.cmpi .slt x 0#32 = if x.toInt < 0 then 1#1 else 0#1 := by
  show BitVec.ofBool (x.slt 0#32) = _
  have : x.slt 0#32 = decide (x.toInt < 0) := by
    rw [Bool.eq_iff_iff, BitVec.slt_iff_toInt_lt, decide_eq_true_iff]; rfl
  rw [this]
  by_cases h : x.toInt < 0
  · rw [if_pos h, decide_eq_true h]; rfl
  · rw [if_neg h, decide_eq_false h]; rfl

/-- The carry of an unsigned comparison. -/
theorem toNat_carry (x y : BitVec 32) : ((IntOp.cmpi .ult x y).setWidth 32).toNat = if x.toNat < y.toNat then 1 else 0 := by
  have h : IntOp.cmpi .ult x y = BitVec.ofBool (x.ult y) := rfl
  have : x.ult y = decide (x.toNat < y.toNat) := rfl
  rw [h, this]
  by_cases h : x.toNat < y.toNat
  · rw [if_pos h, decide_eq_true h]; rfl
  · rw [if_neg h, decide_eq_false h]; rfl

/-- The magnitude, as a natural number. -/
theorem toNat_rAbs (a : BitVec 32) : ((rAbs a).toNat : ℤ) = if a.toInt < 0 then -a.toInt else a.toInt := by
  have ha := a.isLt
  have hn := toNat_of_toInt a
  have ha2 := BitVec.le_toInt (x := a)
  norm_num at ha2
  rw [rAbs, cmpi_slt_zero]
  by_cases h : a.toInt < 0
  · rw [if_pos h, if_pos h]
    show ((-a).toNat : ℤ) = _
    rw [BitVec.toNat_neg]
    split at hn <;> omega
  · rw [if_neg h, if_neg h]
    show (a.toNat : ℤ) = _
    split at hn <;> omega

/-- A shift right by 16 on the host. -/
theorem toNat_shrui16 (x : BitVec 32) : (IntOp.shrui .host x 16#32).toNat = x.toNat / 65536 := by
  have : IntOp.shrui .host x 16#32 = x >>> 16 := rfl
  rw [this, BitVec.toNat_ushiftRight, Nat.shiftRight_eq_div_pow]

/-- A shift right by 31 on the host. -/
theorem toNat_shrui31 (x : BitVec 32) : (IntOp.shrui .host x 31#32).toNat = x.toNat / 2147483648 := by
  have : IntOp.shrui .host x 31#32 = x >>> 31 := rfl
  rw [this, BitVec.toNat_ushiftRight, Nat.shiftRight_eq_div_pow]

/-- A shift left by 16 on the host. -/
theorem toNat_shli16 (x : BitVec 32) : (IntOp.shli .host x 16#32).toNat = x.toNat * 65536 % 4294967296 := by
  have : IntOp.shli .host x 16#32 = x <<< 16 := rfl
  rw [this, BitVec.toNat_shiftLeft, Nat.shiftLeft_eq]

/-- The doubled high word with the top bit of the low word put in. -/
theorem toNat_rQ (a b : BitVec 32) (h : (rHi2 a b).toNat < 2147483648) :
    (rQ a b).toNat = (rHi2 a b).toNat * 2 + (rLo2 a b).toNat / 2147483648 := by
  have h1 : rQ a b = (rHi2 a b) <<< 1 ||| IntOp.shrui .host (rLo2 a b) 31#32 := rfl
  have h2 := toNat_shrui31 (rLo2 a b)
  have h3 := (rLo2 a b).isLt
  rw [h1, BitVec.toNat_or, h2, BitVec.toNat_shiftLeft, Nat.shiftLeft_eq, Nat.mod_eq_of_lt (by omega),
    Nat.mul_comm _ (2 ^ 1), Nat.two_pow_add_eq_or_of_lt (by omega)]

/-- The words of the product: the high word and the low word of the magnitude's product with the multiplier, the rounding
    term added. -/
theorem toNat_product (a b : BitVec 32) (hb : b.toNat < 2147483648) :
    (rHi2 a b).toNat * 4294967296 + (rLo2 a b).toNat
        = (rAbs a).toNat * b.toNat + (if a.toInt < 0 then 1073741823 else 1073741824)
      ∧ (rHi2 a b).toNat < 2147483648 := by
  have hA : (rAbs a).toNat ≤ 2147483648 := by
    have h := toNat_rAbs a
    have ha1 := BitVec.toInt_lt (x := a)
    have ha2 := BitVec.le_toInt (x := a)
    norm_num at ha1 ha2
    split at h <;> omega
  have w1 := toNat_low (rAbs a)
  have w2 := toNat_low b
  have w3 := toNat_shrui16 (rAbs a)
  have w4 := toNat_shrui16 b
  have hN : (rAbs a).toNat * b.toNat = (rAbs a).toNat / 65536 * (b.toNat / 65536) * 4294967296
      + ((rAbs a).toNat / 65536 * (b.toNat % 65536) + (rAbs a).toNat % 65536 * (b.toNat / 65536)) * 65536
      + (rAbs a).toNat % 65536 * (b.toNat % 65536) := by
    conv_lhs => rw [← Nat.div_add_mod (rAbs a).toNat 65536, ← Nat.div_add_mod b.toNat 65536]
    ring
  have b1 : (rAbs a).toNat / 65536 * (b.toNat / 65536) ≤ 32768 * 32767 := Nat.mul_le_mul (by omega) (by omega)
  have b2 : (rAbs a).toNat / 65536 * (b.toNat % 65536) ≤ 32768 * 65535 := Nat.mul_le_mul (by omega) (by omega)
  have b3 : (rAbs a).toNat % 65536 * (b.toNat / 65536) ≤ 65535 * 32767 := Nat.mul_le_mul (by omega) (by omega)
  have b4 : (rAbs a).toNat % 65536 * (b.toNat % 65536) ≤ 65535 * 65535 := Nat.mul_le_mul (by omega) (by omega)
  have e1 : (rLL a b).toNat = (rAbs a).toNat % 65536 * (b.toNat % 65536) := by
    have : rLL a b = IntOp.andi (rAbs a) 65535#32 * IntOp.andi b 65535#32 := rfl
    rw [this, BitVec.toNat_mul, w1, w2]; omega
  have e2 : (rMid a b).toNat = (rAbs a).toNat / 65536 * (b.toNat % 65536) + (rAbs a).toNat % 65536 * (b.toNat / 65536) := by
    have : rMid a b = IntOp.shrui .host (rAbs a) 16#32 * IntOp.andi b 65535#32 + IntOp.andi (rAbs a) 65535#32 * IntOp.shrui .host b 16#32 := rfl
    rw [this, BitVec.toNat_add, BitVec.toNat_mul, BitVec.toNat_mul, w1, w2, w3, w4]; omega
  have e3 : (rLo a b).toNat = ((rLL a b).toNat + (rMid a b).toNat * 65536 % 4294967296) % 4294967296 := by
    have : rLo a b = rLL a b + IntOp.shli .host (rMid a b) 16#32 := rfl
    rw [this, BitVec.toNat_add, toNat_shli16]
  have e4 : (rLo2 a b).toNat = ((rLo a b).toNat + (if a.toInt < 0 then 1073741823 else 1073741824)) % 4294967296 := by
    rw [rLo2, cmpi_slt_zero]
    by_cases h : a.toInt < 0
    · rw [if_pos h, if_pos h]; exact BitVec.toNat_add _ _
    · rw [if_neg h, if_neg h]; exact BitVec.toNat_add _ _
  have c1 := toNat_carry (rLo a b) (rLL a b)
  have c2 := toNat_carry (rLo2 a b) (rLo a b)
  have e5 : (rHi2 a b).toNat = ((rAbs a).toNat / 65536 * (b.toNat / 65536) + (rMid a b).toNat / 65536
      + (if (rLo a b).toNat < (rLL a b).toNat then 1 else 0) + (if (rLo2 a b).toNat < (rLo a b).toNat then 1 else 0)) % 4294967296 := by
    have : rHi2 a b = IntOp.shrui .host (rAbs a) 16#32 * IntOp.shrui .host b 16#32 + IntOp.shrui .host (rMid a b) 16#32
      + (IntOp.cmpi .ult (rLo a b) (rLL a b)).setWidth 32 + (IntOp.cmpi .ult (rLo2 a b) (rLo a b)).setWidth 32 := rfl
    rw [this, BitVec.toNat_add, BitVec.toNat_add, BitVec.toNat_add, BitVec.toNat_mul, c1, c2, w3, w4, toNat_shrui16]
    split <;> split <;> omega
  rw [hN]
  generalize (rAbs a).toNat / 65536 * (b.toNat / 65536) = p1 at *
  generalize (rAbs a).toNat / 65536 * (b.toNat % 65536) = p2 at *
  generalize (rAbs a).toNat % 65536 * (b.toNat / 65536) = p3 at *
  generalize (rAbs a).toNat % 65536 * (b.toNat % 65536) = p4 at *
  have hnu : (if a.toInt < 0 then 1073741823 else 1073741824) ≤ 1073741824 := by split <;> omega
  generalize (if a.toInt < 0 then 1073741823 else 1073741824) = nu at *
  clear w1 w2 w3 w4 hN c1 c2
  generalize (rLL a b).toNat = ll at *
  generalize (rMid a b).toNat = mi at *
  generalize (rLo a b).toNat = lo at *
  generalize (rLo2 a b).toNat = lo2 at *
  generalize (rHi2 a b).toNat = hi at *
  have f1 : lo + (if lo < ll then 1 else 0) * 4294967296 = ll + mi % 65536 * 65536 := by
    split <;> omega
  have f2 : lo2 + (if lo2 < lo then 1 else 0) * 4294967296 = lo + nu := by
    split <;> omega
  generalize (if lo < ll then 1 else 0) = ca at *
  generalize (if lo2 < lo then 1 else 0) = cb at *
  omega

/-- The reference's high product: the doubled product rounded to its high word, a half rounding up. -/
theorem toInt_rSrdhm (a b : BitVec 32) (hb : 0 ≤ b.toInt) :
    (rSrdhm a b).toInt = (a.toInt * b.toInt + 1073741824) / 2147483648 := by
  have hn := toNat_of_toInt b
  rw [if_pos hb] at hn
  have hb1 := BitVec.toInt_lt (x := b)
  norm_num at hb1
  have hbl : b.toNat < 2147483648 := by omega
  obtain ⟨p1, p2⟩ := toNat_product a b hbl
  have q := toNat_rQ a b p2
  have hA := toNat_rAbs a
  have hA' : (rAbs a).toNat ≤ 2147483648 := by
    have ha1 := BitVec.toInt_lt (x := a)
    have ha2 := BitVec.le_toInt (x := a)
    norm_num at ha1 ha2
    split at hA <;> omega
  have l2 := (rLo2 a b).isLt
  have hm : (rAbs a).toNat * b.toNat ≤ 2147483648 * 2147483647 := Nat.mul_le_mul hA' (by omega)
  have hm' : ((rAbs a).toNat : ℤ) * (b.toNat : ℤ) = (((rAbs a).toNat * b.toNat : ℕ) : ℤ) := by push_cast; rfl
  rw [hA, hn] at hm'
  have hq : (rQ a b).toNat < 2147483648 := by
    split at p1 <;> omega
  have hqi : (rQ a b).toInt = (rQ a b).toNat := by
    rw [BitVec.toInt_eq_toNat_of_lt (by omega)]
  generalize (rAbs a).toNat * b.toNat = P at *
  rw [rSrdhm, cmpi_slt_zero]
  by_cases h : a.toInt < 0
  · rw [if_pos h] at *
    have : (Scalar.select 1#1 (-(rQ a b)) (rQ a b)) = -(rQ a b) := rfl
    rw [this, BitVec.toInt_neg, hqi]
    rw [Int.neg_mul] at hm'
    have : a.toInt * b.toInt = -(P : ℤ) := by omega
    rw [this, Int.bmod_def]
    norm_num
    omega
  · rw [if_neg h] at *
    have : (Scalar.select 0#1 (-(rQ a b)) (rQ a b)) = rQ a b := rfl
    rw [this, hqi, hm']
    omega

/-- A signed comparison, as a word. -/
theorem toInt_cmpi_sgt (x y : BitVec 32) : ((IntOp.cmpi .sgt x y).setWidth 32) = if y.toInt < x.toInt then 1#32 else 0#32 := by
  have h : IntOp.cmpi .sgt x y = BitVec.ofBool (y.slt x) := rfl
  have : y.slt x = decide (y.toInt < x.toInt) := by
    rw [Bool.eq_iff_iff, BitVec.slt_iff_toInt_lt, decide_eq_true_iff]
  rw [h, this]
  by_cases h : y.toInt < x.toInt
  · rw [if_pos h, decide_eq_true h]; rfl
  · rw [if_neg h, decide_eq_false h]; rfl

/-- The mask of the bits shifted out is one less than the power of two. -/
theorem toNat_rMask (e : BitVec 32) (h1 : 1 ≤ e.toNat) (h2 : e.toNat ≤ 31) : (rMask e).toNat = 2 ^ e.toNat - 1 := by
  have hp : 2 ^ e.toNat ≤ 2 ^ 31 := Nat.pow_le_pow_right (by norm_num) h2
  have hp1 : 1 ≤ 2 ^ e.toNat := Nat.one_le_two_pow
  have hs : (IntOp.shli .host 1#32 e).toNat = 2 ^ e.toNat := by
    unfold IntOp.shli
    rw [if_pos (by omega), BitVec.shiftLeft_eq', BitVec.toNat_shiftLeft, Nat.shiftLeft_eq]
    have : (1#32).toNat = 1 := rfl
    rw [this, one_mul, Nat.mod_eq_of_lt (by omega)]
  have : rMask e = IntOp.shli .host 1#32 e - 1#32 := rfl
  have h3 : (1#32).toNat = 1 := rfl
  rw [this, BitVec.toNat_sub, hs, h3]
  omega

/-- The rounding division by a power of two: the quotient rounded down, and one more when the remainder is above the threshold. -/
theorem toInt_rRdbp (h e : BitVec 32) (h1 : 1 ≤ e.toNat) (h2 : e.toNat ≤ 31) :
    (rRdbp h e).toInt = (h.toInt + (2 ^ (e.toNat - 1) - if h.toInt < 0 then 1 else 0)) / 2 ^ (e.toNat - 1) / 2 := by
  have hm := toNat_rMask e h1 h2
  have hp : 2 ^ e.toNat ≤ 2 ^ 31 := Nat.pow_le_pow_right (by norm_num) h2
  have hp2 : 2 ^ e.toNat = 2 ^ (e.toNat - 1) * 2 := by rw [← pow_succ]; congr 1; omega
  have hp1 : 1 ≤ 2 ^ (e.toNat - 1) := Nat.one_le_two_pow
  have hq : IntOp.shrsi .host h e = h.sshiftRight e.toNat := by
    rw [IntOp.shrsi, if_pos (by omega), BitVec.sshiftRight']
  have hqi : (IntOp.shrsi .host h e).toInt = h.toInt / ((2 ^ e.toNat : ℕ) : ℤ) := by
    rw [hq, BitVec.toInt_sshiftRight, Int.shiftRight_eq_div_pow]
  have hr : (IntOp.andi h (rMask e)).toNat = h.toNat % 2 ^ e.toNat := by
    have : IntOp.andi h (rMask e) = h &&& rMask e := rfl
    rw [this, BitVec.toNat_and, hm, Nat.and_two_pow_sub_one_eq_mod]
  have hrl : h.toNat % 2 ^ e.toNat < 2 ^ e.toNat := Nat.mod_lt _ (by omega)
  have hri : (IntOp.andi h (rMask e)).toInt = h.toInt % ((2 ^ e.toNat : ℕ) : ℤ) := by
    rw [BitVec.toInt_eq_toNat_of_lt (by rw [hr]; omega), hr, BitVec.toInt_eq_toNat_cond]
    push_cast
    split
    · rfl
    · have hd : (2 : ℤ) ^ e.toNat ∣ (2 : ℤ) ^ 32 := pow_dvd_pow 2 (by omega)
      obtain ⟨k, hk⟩ := hd
      norm_num at hk
      rw [hk, Int.sub_mul_emod_self_left]
  have ht : (IntOp.shrsi .host (rMask e) 1#32).toNat = 2 ^ (e.toNat - 1) - 1 := by
    have : IntOp.shrsi .host (rMask e) 1#32 = (rMask e).sshiftRight 1 := rfl
    have hmi : (rMask e).toInt = (rMask e).toNat := BitVec.toInt_eq_toNat_of_lt (by omega)
    have hx : (IntOp.shrsi .host (rMask e) 1#32).toInt = (rMask e).toNat / 2 := by
      rw [this, BitVec.toInt_sshiftRight, Int.shiftRight_eq_div_pow, hmi]; rfl
    have hy := toNat_of_toInt (IntOp.shrsi .host (rMask e) 1#32)
    rw [hx] at hy
    split at hy <;> omega
  have hti : (IntOp.addi (IntOp.shrsi .host (rMask e) 1#32) ((IntOp.cmpi .slt h 0#32).setWidth 32)).toInt
      = ((2 ^ (e.toNat - 1) : ℕ) : ℤ) - 1 + (if h.toInt < 0 then 1 else 0) := by
    rw [cmpi_slt_zero]
    have hadd : ∀ y : BitVec 32, y.toNat ≤ 1 → (IntOp.addi (IntOp.shrsi .host (rMask e) 1#32) y).toInt = ((2 ^ (e.toNat - 1) : ℕ) : ℤ) - 1 + y.toNat := by
      intro y hy
      have hn : (IntOp.addi (IntOp.shrsi .host (rMask e) 1#32) y).toNat = 2 ^ (e.toNat - 1) - 1 + y.toNat := by
        have : IntOp.addi (IntOp.shrsi .host (rMask e) 1#32) y = IntOp.shrsi .host (rMask e) 1#32 + y := rfl
        rw [this, BitVec.toNat_add, ht]; omega
      rw [BitVec.toInt_eq_toNat_of_lt (by omega), hn]; omega
    by_cases hneg : h.toInt < 0
    · rw [if_pos hneg, if_pos hneg, hadd _ (by decide)]; rfl
    · rw [if_neg hneg, if_neg hneg, hadd _ (by decide)]; rfl
  have hl := BitVec.toInt_lt (x := h)
  have hl2 := BitVec.le_toInt (x := h)
  norm_num at hl hl2
  have hsum : ∀ y : BitVec 32, y.toInt = 0 ∨ y.toInt = 1 → (IntOp.addi (IntOp.shrsi .host h e) y).toInt = h.toInt / ((2 ^ e.toNat : ℕ) : ℤ) + y.toInt := by
    intro y hy
    have : IntOp.addi (IntOp.shrsi .host h e) y = IntOp.shrsi .host h e + y := rfl
    rw [this, BitVec.toInt_add, hqi, Int.bmod_eq_of_le]
    · have : -1073741824 ≤ h.toInt / ((2 ^ e.toNat : ℕ) : ℤ) := by
        apply Int.le_ediv_of_mul_le (by omega)
        rw [hp2]; push_cast; nlinarith
      generalize h.toInt / ((2 ^ e.toNat : ℕ) : ℤ) = q at *
      norm_num; omega
    · have : h.toInt / ((2 ^ e.toNat : ℕ) : ℤ) < 1073741824 := by
        apply Int.ediv_lt_of_lt_mul (by omega)
        rw [hp2]; push_cast; nlinarith
      generalize h.toInt / ((2 ^ e.toNat : ℕ) : ℤ) = q at *
      norm_num; omega
  rw [rRdbp, toInt_cmpi_sgt, hti, hri]
  have hd := Int.mul_ediv_add_emod h.toInt ((2 ^ e.toNat : ℕ) : ℤ)
  have hm0 := Int.emod_nonneg h.toInt (b := ((2 ^ e.toNat : ℕ) : ℤ)) (by omega)
  have hm1 := Int.emod_lt_of_pos h.toInt (b := ((2 ^ e.toNat : ℕ) : ℤ)) (by omega)
  have hpz : (2 : ℤ) ^ (e.toNat - 1) = ((2 ^ (e.toNat - 1) : ℕ) : ℤ) := by push_cast; rfl
  rw [hpz, Int.ediv_ediv_of_nonneg (by omega)]
  have hpe : ((2 ^ e.toNat : ℕ) : ℤ) = ((2 ^ (e.toNat - 1) : ℕ) : ℤ) * 2 := by rw [hp2]; push_cast; rfl
  generalize hQ : h.toInt / ((2 ^ e.toNat : ℕ) : ℤ) = q at *
  generalize hR : h.toInt % ((2 ^ e.toNat : ℕ) : ℤ) = r at *
  rw [← hpe]
  generalize hPP : ((2 ^ e.toNat : ℕ) : ℤ) = pp at *
  generalize ((2 ^ (e.toNat - 1) : ℕ) : ℤ) = ph at *
  have hfin : ∀ d : ℤ, h.toInt + (ph - if h.toInt < 0 then 1 else 0) = pp * d + (r + (ph - if h.toInt < 0 then 1 else 0) - pp * (d - q)) := by
    intro d; rw [← hd]; ring
  by_cases hc : ph - 1 + (if h.toInt < 0 then 1 else 0) < r
  · rw [if_pos hc, hsum _ (Or.inr rfl), hfin (q + 1), Int.add_ediv_of_dvd_left (Dvd.intro _ rfl),
      Int.mul_ediv_cancel_left _ (by omega), Int.ediv_eq_zero_of_lt]
    · rw [add_zero]; rfl
    · rw [show q + 1 - q = 1 by ring, mul_one]; split at hc <;> split <;> omega
    · rw [show q + 1 - q = 1 by ring, mul_one]; split at hc <;> split <;> omega
  · rw [if_neg hc, hsum _ (Or.inl rfl), hfin q, Int.add_ediv_of_dvd_left (Dvd.intro _ rfl),
      Int.mul_ediv_cancel_left _ (by omega), Int.ediv_eq_zero_of_lt]
    · rfl
    · rw [show q - q = 0 by ring, mul_zero]; split at hc <;> split <;> omega
    · rw [show q - q = 0 by ring, mul_zero]; split at hc <;> split <;> omega

/-- The kernel's and the reference's rescaled words are equal, at a nonnegative multiplier and a shift from 1 to 31. -/
theorem kScaled_eq (a b e : BitVec 32) (hb : 0 ≤ b.toInt) (h1 : 1 ≤ e.toNat) (h2 : e.toNat ≤ 31) :
    kScaled a b e = rRdbp (rSrdhm a b) e := by
  apply BitVec.eq_of_toInt_eq
  rw [toInt_kScaled a b e hb h1 h2, toInt_rRdbp _ e h1 h2, toInt_rSrdhm a b hb]
  have hp1 : (1 : ℤ) ≤ 2 ^ (e.toNat - 1) := one_le_pow₀ (by norm_num)
  rw [Int.ediv_ediv_of_nonneg (by omega), Int.ediv_ediv_of_nonneg (by omega), mul_comm 2]
  generalize (2 : ℤ) ^ (e.toNat - 1) = p at *
  by_cases ha : a.toInt < 0
  · have hab : a.toInt * b.toInt ≤ 0 := mul_nonpos_of_nonpos_of_nonneg (by omega) hb
    by_cases h0 : (a.toInt * b.toInt + 1073741824) / 2147483648 < 0
    · rw [if_pos ha, if_pos h0]
    · have hz : (a.toInt * b.toInt + 1073741824) / 2147483648 = 0 := by omega
      rw [if_pos ha, hz, if_neg (by omega), Int.ediv_eq_zero_of_lt (by omega) (by omega), Int.ediv_eq_zero_of_lt (by omega) (by omega)]
  · have hab : 0 ≤ a.toInt * b.toInt := mul_nonneg (by omega) hb
    rw [if_neg ha, if_neg (by omega)]

end Cert.Hand
end
-- ==== Proof.Chunk.lean ====
/-
  One block of 256 output columns, as the kernel computes it from its loads, and its entries as 32-bit words: the seven blocks of products
  are one product sum over the contracted axis, and the rescaling is the entry's own word.
-/
module

public import proofs.«01_k».proof.Proof.Gen.KernelIdeal.Frame
public import proofs.«01_k».proof.Proof.Words
public import proofs.«01_k».proof.Proof.Requant
public import Idealize.ShloMosaic.Lib.Pipeline.ValueKit
public import Idealize.ShloMosaic.Lib.Pipeline.ReadBack
public import Idealize.ShloMosaic.Lib.Pointwise

@[expose] public section

set_option maxRecDepth 16384
noncomputable section

namespace Cert.KernelIdeal.Hand

open Idealize.ShloMosaic Idealize.ShloMosaic.TcCoe Idealize.SL Idealize.SL.Sem Cert.KernelIdeal Cert.KernelIdeal.Gen Cert.Hand

/-! ## The block's operations -/

/-- The product of a block of rows and a block of columns over 1024 contracted positions, rounded and converted. -/
def part (x : Vec Ideal S512x1024 .i8) (w : Vec Ideal S256x1024 .i8) : IVec S512x256 32 :=
  fptosi 32 (roundeven (matmul (F := Ideal) (φ₁ := .bf16) (φ₂ := .bf16) dot_S512x1024_S256x1024_S512x256_1_1_0_0_n_n none
    (sitofp .bf16 (shapeCast S512x1024 x shapeCasts_S512x1024_S512x1024)) (sitofp .bf16 w) (constant S512x256 .f32 0x00000000#32)))

/-- The seven products added up, and the column's constant added. -/
def accum (x0 x1 x2 x3 x4 x5 x6 : Vec Ideal S512x1024 .i8) (w0 w1 w2 w3 w4 w5 w6 : Vec Ideal S256x1024 .i8)
    (bias : Vec Ideal S1x256 .i32) (zp : Elt Ideal .i32) (ws : Vec Ideal S1x256 .i32) : IVec S512x256 32 :=
  addi (addi (addi (addi (addi (addi (addi (part x0 w0) (part x1 w1)) (part x2 w2)) (part x3 w3)) (part x4 w4)) (part x5 w5)) (part x6 w6))
    (broadcastTo S512x256 (subi (shapeCast S1x256 bias shapeCasts_S1x256_S1x256) (muli (broadcast S1x256 zp) ws)) broadcasts_S1x256_S512x256)

/-- The low half of the multiplier. -/
def lowHalf (b : IVec S1x256 32) : IVec S1x256 32 := shrsi (shli b (broadcast S1x256 16#32)) (broadcast S1x256 16#32)

/-- The high half of the multiplier. -/
def highHalf (b : IVec S1x256 32) : IVec S1x256 32 := shrui (subi b (lowHalf b)) (broadcast S1x256 16#32)

/-- Half of the high half. -/
def halfHigh (b : IVec S1x256 32) : IVec S1x256 32 := shrsi (highHalf b) (broadcast S1x256 1#32)

/-- The middle digit's constant. -/
def midTerm (e b : IVec S1x256 32) : IVec S1x256 32 :=
  subi (select (cmpi .eq e (broadcast S1x256 1#32)) (broadcast S1x256 49152#32) (broadcast S1x256 16384#32)) (shli (halfHigh b) (broadcast S1x256 16#32))

/-- The high digit's constant. -/
def highTerm (e b : IVec S1x256 32) : IVec S1x256 32 :=
  addi (halfHigh b) (select (cmpi .eq e (broadcast S1x256 1#32)) (broadcast S1x256 0#32)
    (shli (broadcast S1x256 1#32) (maxsi (subi e (broadcast S1x256 2#32)) (broadcast S1x256 0#32))))

/-- The middle digit. -/
def midDigit (a : IVec S512x256 32) (e b : IVec S1x256 32) : IVec S512x256 32 :=
  addi (addi (addi (addi (muli (shrsi a (broadcast S512x256 16#32)) (broadcastTo S512x256 (lowHalf b) broadcasts_S1x256_S512x256))
        (muli (andi a (broadcast S512x256 65535#32)) (broadcastTo S512x256 (highHalf b) broadcasts_S1x256_S512x256)))
      (shrsi (muli (andi a (broadcast S512x256 65535#32)) (broadcastTo S512x256 (lowHalf b) broadcasts_S1x256_S512x256)) (broadcast S512x256 16#32)))
    (broadcastTo S512x256 (midTerm e b) broadcasts_S1x256_S512x256)) (andi (shrsi a (broadcast S512x256 16#32)) (broadcast S512x256 4294934528#32))

/-- The rescaled block, the output's zero point added, clipped and narrowed. -/
def requant (a : IVec S512x256 32) (e b : IVec S1x256 32) (yz : Elt Ideal .i32) : IVec S512x256 8 :=
  trunci 8 (minsi (broadcast S512x256 127#32) (maxsi (broadcast S512x256 4294967168#32)
    (addi (shrsi (addi (addi (muli (shrsi a (broadcast S512x256 16#32)) (broadcastTo S512x256 (highHalf b) broadcasts_S1x256_S512x256))
          (broadcastTo S512x256 (highTerm e b) broadcasts_S1x256_S512x256)) (shrsi (midDigit a e b) (broadcast S512x256 16#32)))
        (broadcastTo S512x256 (subi e (broadcast S1x256 1#32)) broadcasts_S1x256_S512x256))
      (broadcast S512x256 yz)))) natLt_8_32

/-- One block of output columns from its loads. -/
def chunk (x0 x1 x2 x3 x4 x5 x6 : Vec Ideal S512x1024 .i8) (w0 w1 w2 w3 w4 w5 w6 : Vec Ideal S256x1024 .i8)
    (bias : Vec Ideal S1x256 .i32) (zp : Elt Ideal .i32) (ws e b : Vec Ideal S1x256 .i32) (yz : Elt Ideal .i32) : IVec S512x256 8 :=
  requant (accum x0 x1 x2 x3 x4 x5 x6 w0 w1 w2 w3 w4 w5 w6 bias zp ws)
    (shapeCast S1x256 e shapeCasts_S1x256_S1x256) (shapeCast S1x256 b shapeCasts_S1x256_S1x256) yz

/-! ## Their entries -/

/-- An entry of a product block: the product sum as words. -/
theorem part_at (x : Vec Ideal S512x1024 .i8) (w : Vec Ideal S256x1024 .i8) (p : Fin 512) (q : Fin 256) :
    part x w (ix2 p q) = ∑ k : Fin 1024, BitVec.signExtend 32 (x (ix2 p k)) * BitVec.signExtend 32 (w (ix2 q k)) := by
  refine Eq.trans ?_ (dot_word (by norm_num) (fun k => x (ix2 p k)) (fun k => w (ix2 q k)))
  unfold part
  pointwise

/-- The clipped and narrowed word. -/
def clip8 (v yz : BitVec 32) : BitVec 8 := (IntOp.minsi 127#32 (IntOp.maxsi 4294967168#32 (IntOp.addi v yz))).setWidth 8

/-- An entry of a rescaled block: the entry's own word rescaled. -/
theorem requant_at (a : IVec S512x256 32) (e b : IVec S1x256 32) (yz : Elt Ideal .i32) (p : Fin 512) (q : Fin 256) :
    requant a e b yz (ix2 p q) = clip8 (kScaled (a (ix2 p q)) (b (ix2 0 q)) (e (ix2 0 q))) yz := by
  unfold requant midDigit highTerm midTerm halfHigh highHalf lowHalf
  pointwise
  rfl

/-- An entry of the accumulated block. -/
theorem accum_at (x0 x1 x2 x3 x4 x5 x6 : Vec Ideal S512x1024 .i8) (w0 w1 w2 w3 w4 w5 w6 : Vec Ideal S256x1024 .i8)
    (bias : Vec Ideal S1x256 .i32) (zp : Elt Ideal .i32) (ws : Vec Ideal S1x256 .i32) (p : Fin 512) (q : Fin 256) :
    accum x0 x1 x2 x3 x4 x5 x6 w0 w1 w2 w3 w4 w5 w6 bias zp ws (ix2 p q)
      = (((((((part x0 w0 (ix2 p q)) + (part x1 w1 (ix2 p q))) + (part x2 w2 (ix2 p q))) + (part x3 w3 (ix2 p q))) + (part x4 w4 (ix2 p q)))
        + (part x5 w5 (ix2 p q))) + (part x6 w6 (ix2 p q))) + (bias (ix2 0 q) - zp * ws (ix2 0 q)) := by
  unfold accum
  generalize part x0 w0 = p0
  generalize part x1 w1 = p1
  generalize part x2 w2 = p2
  generalize part x3 w3 = p3
  generalize part x4 w4 = p4
  generalize part x5 w5 = p5
  generalize part x6 w6 = p6
  pointwise
  rfl

/-- The column sums of a block of 256 columns. -/
theorem sums_at (w : Vec Ideal S256x7168 .i8) (p : Fin 8) (q : Fin 256) :
    k0_pay3 (F := Ideal) w (ix2 p q) = ∑ k : Fin 7168, BitVec.signExtend 32 (w (ix2 q k)) := by
  refine Eq.trans ?_ (sum_word (by norm_num) (fun k => w (ix2 q k)))
  unfold k0_pay3 k0_pay2
  pointwise

end Cert.KernelIdeal.Hand
end
-- ==== Proof.Block.lean ====
/-
  One grid point's output block, 512 rows by 2048 columns, read at an entry: the eight stores of 256 columns are blocks of one function of the
  entry. The column sums that a later grid point reads are what the first one stored.
-/
module

public import proofs.«01_k».proof.Proof.Chunk

@[expose] public section

set_option maxRecDepth 16384
noncomputable section

namespace Cert.KernelIdeal.Hand

open Idealize.ShloMosaic Idealize.ShloMosaic.TcCoe Idealize.SL Idealize.SL.Sem Cert.KernelIdeal Cert.KernelIdeal.Gen Cert.Hand

/-- A load of a rectangle of a matrix, read at an entry: the matrix at the offset entry. -/
theorem ld_ix2 {e : EltTy} {A B a b : ℕ} (X : Vec Ideal ⟨2, ![A, B]⟩ e) (o1 o2 : ℕ)
    (h : ∀ i, (![o1, o2] : Fin 2 → ℕ) i + (![a, b] : Fin 2 → ℕ) i ≤ (⟨2, ![A, B]⟩ : Shape).size i) (p : Fin a) (q : Fin b)
    (h1 : o1 + p.val < A) (h2 : o2 + q.val < B) :
    View.ld X (Rect.unit ![o1, o2] ![a, b] h) (ix2 p q) = X (ix2 ⟨o1 + p.val, h1⟩ ⟨o2 + q.val, h2⟩) := by
  refine congrArg X (funext fun c => Fin.ext ?_)
  match c with
  | ⟨0, _⟩ => exact congrArg (o1 + ·) (Nat.one_mul _)
  | ⟨1, _⟩ => exact congrArg (o2 + ·) (Nat.one_mul _)

/-- The product of two contracted entries as words, zero beyond the contracted axis. -/
def prodWord (X : Vec Ideal S512x7168 .i8) (W : Vec Ideal S2048x7168 .i8) (p : Fin 512) (n : Fin 2048) (k : ℕ) : BitVec 32 :=
  if h : k < 7168 then BitVec.signExtend 32 (X (ix2 p ⟨k, h⟩)) * BitVec.signExtend 32 (W (ix2 n ⟨k, h⟩)) else 0#32

/-- A product block of loads is that block of the contracted axis. -/
theorem part_ld (X : Vec Ideal S512x7168 .i8) (W : Vec Ideal S2048x7168 .i8) (n o : ℕ) (hn : n + 256 ≤ 2048) (ho : o + 1024 ≤ 7168)
    (h : ∀ i, (![0, o] : Fin 2 → ℕ) i + (![512, 1024] : Fin 2 → ℕ) i ≤ S512x7168.size i)
    (h' : ∀ i, (![n, o] : Fin 2 → ℕ) i + (![256, 1024] : Fin 2 → ℕ) i ≤ S2048x7168.size i) (p : Fin 512) (q : Fin 256) :
    part (View.ld X (Rect.unit ![0, o] ![512, 1024] h)) (View.ld W (Rect.unit ![n, o] ![256, 1024] h')) (ix2 p q)
      = ∑ k : Fin 1024, prodWord X W p ⟨n + q.val, by have := q.isLt; omega⟩ (o + k.val) := by
  refine (part_at _ _ p q).trans (Finset.sum_congr rfl fun k _ => ?_)
  have hp := p.isLt
  have hq := q.isLt
  have hk := k.isLt
  rw [prodWord, dif_pos (by omega)]
  rw [ld_ix2 X 0 o h p k (by omega) (by omega), ld_ix2 W n o h' q k (by omega) (by omega)]
  congr 4
  exact Fin.ext (Nat.zero_add _)

/-- The accumulator of one entry. -/
def accEntry (X : Vec Ideal S512x7168 .i8) (W : Vec Ideal S2048x7168 .i8) (bias : Vec Ideal S1x2048 .i32) (zp : Elt Ideal .i32)
    (ws : Vec Ideal S8x2048 .i32) (p : Fin 512) (n : Fin 2048) : BitVec 32 :=
  (∑ k : Fin 7168, BitVec.signExtend 32 (X (ix2 p k)) * BitVec.signExtend 32 (W (ix2 n k))) + (bias (ix2 0 n) - zp * ws (ix2 0 n))

/-- One output entry of a grid point. -/
def blockEntry (X : Vec Ideal S512x7168 .i8) (W : Vec Ideal S2048x7168 .i8) (bias : Vec Ideal S1x2048 .i32) (zp : Elt Ideal .i32)
    (ws : Vec Ideal S8x2048 .i32) (b e : Vec Ideal S1x2048 .i32) (yz : Elt Ideal .i32) (y : S512x2048.Idx) : BitVec 8 :=
  clip8 (kScaled (accEntry X W bias zp ws (y 0) (y 1)) (b (ix2 0 (y 1))) (e (ix2 0 (y 1)))) yz

/-- One stored block of columns is its part of the output block. -/
theorem chunk_ld (X : Vec Ideal S512x7168 .i8) (W : Vec Ideal S2048x7168 .i8) (bias : Vec Ideal S1x2048 .i32) (zp : Elt Ideal .i32)
    (ws : Vec Ideal S8x2048 .i32) (b e : Vec Ideal S1x2048 .i32) (yz : Elt Ideal .i32) (n : ℕ) (hn : n + 256 ≤ 2048)
    (h0 : ∀ i, (![0, 0] : Fin 2 → ℕ) i + (![512, 1024] : Fin 2 → ℕ) i ≤ S512x7168.size i)
    (h1 : ∀ i, (![0, 1024] : Fin 2 → ℕ) i + (![512, 1024] : Fin 2 → ℕ) i ≤ S512x7168.size i)
    (h2 : ∀ i, (![0, 2048] : Fin 2 → ℕ) i + (![512, 1024] : Fin 2 → ℕ) i ≤ S512x7168.size i)
    (h3 : ∀ i, (![0, 3072] : Fin 2 → ℕ) i + (![512, 1024] : Fin 2 → ℕ) i ≤ S512x7168.size i)
    (h4 : ∀ i, (![0, 4096] : Fin 2 → ℕ) i + (![512, 1024] : Fin 2 → ℕ) i ≤ S512x7168.size i)
    (h5 : ∀ i, (![0, 5120] : Fin 2 → ℕ) i + (![512, 1024] : Fin 2 → ℕ) i ≤ S512x7168.size i)
    (h6 : ∀ i, (![0, 6144] : Fin 2 → ℕ) i + (![512, 1024] : Fin 2 → ℕ) i ≤ S512x7168.size i)
    (g0 : ∀ i, (![n, 0] : Fin 2 → ℕ) i + (![256, 1024] : Fin 2 → ℕ) i ≤ S2048x7168.size i)
    (g1 : ∀ i, (![n, 1024] : Fin 2 → ℕ) i + (![256, 1024] : Fin 2 → ℕ) i ≤ S2048x7168.size i)
    (g2 : ∀ i, (![n, 2048] : Fin 2 → ℕ) i + (![256, 1024] : Fin 2 → ℕ) i ≤ S2048x7168.size i)
    (g3 : ∀ i, (![n, 3072] : Fin 2 → ℕ) i + (![256, 1024] : Fin 2 → ℕ) i ≤ S2048x7168.size i)
    (g4 : ∀ i, (![n, 4096] : Fin 2 → ℕ) i + (![256, 1024] : Fin 2 → ℕ) i ≤ S2048x7168.size i)
    (g5 : ∀ i, (![n, 5120] : Fin 2 → ℕ) i + (![256, 1024] : Fin 2 → ℕ) i ≤ S2048x7168.size i)
    (g6 : ∀ i, (![n, 6144] : Fin 2 → ℕ) i + (![256, 1024] : Fin 2 → ℕ) i ≤ S2048x7168.size i)
    (hr : ∀ i, (![0, n] : Fin 2 → ℕ) i + (![1, 256] : Fin 2 → ℕ) i ≤ S1x2048.size i)
    (hw : ∀ i, (![0, n] : Fin 2 → ℕ) i + (![1, 256] : Fin 2 → ℕ) i ≤ S8x2048.size i)
    (hy : ∀ i, (![0, n] : Fin 2 → ℕ) i + (![512, 256] : Fin 2 → ℕ) i ≤ S512x2048.size i) (i : (Rect.unit (s := S512x2048) ![0, n] ![512, 256] hy).shape.Idx) :
    chunk (View.ld X (Rect.unit ![0, 0] ![512, 1024] h0)) (View.ld X (Rect.unit ![0, 1024] ![512, 1024] h1))
        (View.ld X (Rect.unit ![0, 2048] ![512, 1024] h2)) (View.ld X (Rect.unit ![0, 3072] ![512, 1024] h3))
        (View.ld X (Rect.unit ![0, 4096] ![512, 1024] h4)) (View.ld X (Rect.unit ![0, 5120] ![512, 1024] h5))
        (View.ld X (Rect.unit ![0, 6144] ![512, 1024] h6))
        (View.ld W (Rect.unit ![n, 0] ![256, 1024] g0)) (View.ld W (Rect.unit ![n, 1024] ![256, 1024] g1))
        (View.ld W (Rect.unit ![n, 2048] ![256, 1024] g2)) (View.ld W (Rect.unit ![n, 3072] ![256, 1024] g3))
        (View.ld W (Rect.unit ![n, 4096] ![256, 1024] g4)) (View.ld W (Rect.unit ![n, 5120] ![256, 1024] g5))
        (View.ld W (Rect.unit ![n, 6144] ![256, 1024] g6))
        (View.ld bias (Rect.unit ![0, n] ![1, 256] hr)) zp (View.ld ws (Rect.unit ![0, n] ![1, 256] hw))
        (View.ld e (Rect.unit ![0, n] ![1, 256] hr)) (View.ld b (Rect.unit ![0, n] ![1, 256] hr)) yz i
      = blockEntry X W bias zp ws b e yz ((Rect.unit (s := S512x2048) ![0, n] ![512, 256] hy).emb i) := by
  obtain ⟨p, q, rfl⟩ : ∃ (p : Fin 512) (q : Fin 256), i = ix2 p q := ⟨i 0, i 1, by idx_vars i⟩
  have hp := p.isLt
  have hq := q.isLt
  have hemb : (Rect.unit (s := S512x2048) ![0, n] ![512, 256] hy).emb (ix2 p q) = ix2 p ⟨n + q.val, by omega⟩ := by
    funext c
    refine Fin.ext ?_
    match c with
    | ⟨0, _⟩ => exact (congrArg (0 + ·) (Nat.one_mul _)).trans (Nat.zero_add _)
    | ⟨1, _⟩ => exact congrArg (n + ·) (Nat.one_mul _)
  have hz : ∀ (h : 0 + (0 : Fin 1).val < 1), (⟨0 + (0 : Fin 1).val, h⟩ : Fin 1) = 0 := fun _ => rfl
  have hz8 : ∀ (h : 0 + (0 : Fin 1).val < 8), (⟨0 + (0 : Fin 1).val, h⟩ : Fin 8) = 0 := fun _ => rfl
  rw [hemb, chunk, requant_at, accum_at, shapeCast_self, shapeCast_self,
    part_ld X W n 0 hn (by norm_num), part_ld X W n 1024 hn (by norm_num), part_ld X W n 2048 hn (by norm_num), part_ld X W n 3072 hn (by norm_num),
    part_ld X W n 4096 hn (by norm_num), part_ld X W n 5120 hn (by norm_num), part_ld X W n 6144 hn (by norm_num),
    ld_ix2 bias 0 n hr 0 q (by norm_num) (by omega), ld_ix2 e 0 n hr 0 q (by norm_num) (by omega), ld_ix2 b 0 n hr 0 q (by norm_num) (by omega),
    ld_ix2 ws 0 n hw 0 q (by norm_num) (by omega), hz, hz8]
  simp only [Nat.zero_add]
  rw [← sum_blocks]
  have hs : ∑ k : Fin 7168, prodWord X W p ⟨n + q.val, by omega⟩ k.val
      = ∑ k : Fin 7168, BitVec.signExtend 32 (X (ix2 p k)) * BitVec.signExtend 32 (W (ix2 ⟨n + q.val, by omega⟩ k)) :=
    Finset.sum_congr rfl fun k _ => dif_pos k.isLt
  rw [hs]
  rfl

/-- Stores that are blocks of `G` and cover an index leave `G` there. -/
theorem canon_of_piecesOf {s : Shape} {e : EltTy} (G : s.Idx → Elt Ideal e) (L : List (View.Piece (Elt Ideal) s e)) (h : View.PiecesOf G L) (y : s.Idx)
    (hc : ∃ p ∈ L, y ∈ p.1.set) : View.canon L y = G y := by
  have := View.canon_append_of_piecesOf G [] L h y hc
  rwa [List.append_nil] at this

/-- What a later grid point leaves in the output block. -/
theorem out_B (c : Dev nD) (i : grid0.Coords) (arg1 : Memref sig .tc .smem S1 .i32) (harg1 : arg1.IsWhole) (arg2 : Memref sig .tc .smem S1 .i32) (harg2 : arg2.IsWhole) (arg3 : Memref sig .tc .vmem S512x7168 .i8) (harg3 : arg3.IsWhole) (arg4 : Memref sig .tc .vmem S2048x7168 .i8) (harg4 : arg4.IsWhole) (arg5 : Memref sig .tc .vmem S1x2048 .i32) (harg5 : arg5.IsWhole) (arg6 : Memref sig .tc .vmem S1x2048 .i32) (harg6 : arg6.IsWhole) (arg7 : Memref sig .tc .vmem S1x2048 .i32) (harg7 : arg7.IsWhole) (arg8 : Memref sig .tc .vmem S512x2048 .i8) (harg8 : arg8.IsWhole) (arg9 : Memref sig .tc .vmem S8x2048 .i32) (harg9 : arg9.IsWhole) (hc0 : ¬cond0_0 i)
    (x0 : Vec Ideal S1 .i32) (x1 : Vec Ideal S1 .i32) (x2 : Vec Ideal S512x7168 .i8) (x3 : Vec Ideal S2048x7168 .i8) (x4 : Vec Ideal S1x2048 .i32) (x5 : Vec Ideal S1x2048 .i32) (x6 : Vec Ideal S1x2048 .i32) (xs0 : Vec Ideal S8x2048 .i32) (y : S512x2048.Idx) :
    out0_B_7 c i arg1 harg1 arg2 harg2 arg3 harg3 arg4 harg4 arg5 harg5 arg6 harg6 arg7 harg7 arg8 harg8 arg9 harg9 hc0 x0 x1 x2 x3 x4 x5 x6 xs0 y
      = blockEntry x2 x3 x4 (x0 (ix1 0)) xs0 x5 x6 (x1 (ix1 0)) y := by
  have hx0 : ∀ (x : Vec Ideal S1 .i32) h, View.ld x (Rect.unit ![0] ![1] inb_S1_S1_0) (Shape.Idx.first h) = x (ix1 0) := by
    intro x h
    refine congrArg x (funext fun c => Fin.ext ?_)
    match c with
    | ⟨0, _⟩ => rfl
  rw [← hx0 x0 (by decide), ← hx0 x1 (by decide)]
  frame_out
  refine canon_of_piecesOf (s := S512x2048) (e := .i8) (blockEntry x2 x3 x4 _ xs0 x5 x6 _) _ ?_ y
    (View.cover_of_tiledL (s := S512x2048) _ S512x256.size (by sl_kernel_rfl) y)
  refine ⟨?_, ?_, ?_, ?_, ?_, ?_, ?_, ?_, trivial⟩
  · exact chunk_ld x2 x3 x4 _ xs0 x5 x6 _ 1792 (by norm_num) _ _ _ _ _ _ _ _ _ _ _ _ _ _ _ _ inb_S512x2048_S512x256_0_1792
  · exact chunk_ld x2 x3 x4 _ xs0 x5 x6 _ 1536 (by norm_num) _ _ _ _ _ _ _ _ _ _ _ _ _ _ _ _ inb_S512x2048_S512x256_0_1536
  · exact chunk_ld x2 x3 x4 _ xs0 x5 x6 _ 1280 (by norm_num) _ _ _ _ _ _ _ _ _ _ _ _ _ _ _ _ inb_S512x2048_S512x256_0_1280
  · exact chunk_ld x2 x3 x4 _ xs0 x5 x6 _ 1024 (by norm_num) _ _ _ _ _ _ _ _ _ _ _ _ _ _ _ _ inb_S512x2048_S512x256_0_1024
  · exact chunk_ld x2 x3 x4 _ xs0 x5 x6 _ 768 (by norm_num) _ _ _ _ _ _ _ _ _ _ _ _ _ _ _ _ inb_S512x2048_S512x256_0_768
  · exact chunk_ld x2 x3 x4 _ xs0 x5 x6 _ 512 (by norm_num) _ _ _ _ _ _ _ _ _ _ _ _ _ _ _ _ inb_S512x2048_S512x256_0_512
  · exact chunk_ld x2 x3 x4 _ xs0 x5 x6 _ 256 (by norm_num) _ _ _ _ _ _ _ _ _ _ _ _ _ _ _ _ inb_S512x2048_S512x256_0_256
  · exact chunk_ld x2 x3 x4 _ xs0 x5 x6 _ 0 (by norm_num) _ _ _ _ _ _ _ _ _ _ _ _ _ _ _ _ inb_S512x2048_S512x256_0_0

end Cert.KernelIdeal.Hand
end
-- ==== Proof.Scratch.lean ====
/-
  The first grid point: it stores the column sums of the weights in the scratch buffer and reads them back, so that what it leaves in its output
  block is what a later point leaves from a scratch buffer that holds those sums.
-/
module

public import proofs.«01_k».proof.Proof.Block

@[expose] public section

set_option maxRecDepth 16384
noncomputable section

namespace Cert.KernelIdeal.Hand

open Idealize.ShloMosaic Idealize.ShloMosaic.TcCoe Idealize.SL Idealize.SL.Sem Cert.KernelIdeal Cert.KernelIdeal.Gen Cert.Hand

/-- The column sums, in each of the scratch buffer's eight rows. -/
def colSums (W : Vec Ideal S2048x7168 .i8) : Vec Ideal S8x2048 .i32 := fun y => ∑ k : Fin 7168, BitVec.signExtend 32 (W (ix2 (y 1) k))

/-- One stored block of column sums is its part of the whole. -/
theorem sums_ld (W : Vec Ideal S2048x7168 .i8) (n : ℕ) (hn : n + 256 ≤ 2048)
    (g : ∀ i, (![n, 0] : Fin 2 → ℕ) i + (![256, 7168] : Fin 2 → ℕ) i ≤ S2048x7168.size i)
    (hy : ∀ i, (![0, n] : Fin 2 → ℕ) i + (![8, 256] : Fin 2 → ℕ) i ≤ S8x2048.size i) (i : (Rect.unit (s := S8x2048) ![0, n] ![8, 256] hy).shape.Idx) :
    k0_pay3 (F := Ideal) (View.ld W (Rect.unit ![n, 0] ![256, 7168] g)) i = colSums W ((Rect.unit (s := S8x2048) ![0, n] ![8, 256] hy).emb i) := by
  obtain ⟨p, q, rfl⟩ : ∃ (p : Fin 8) (q : Fin 256), i = ix2 p q := ⟨i 0, i 1, by idx_vars i⟩
  have hq := q.isLt
  have hemb : (Rect.unit (s := S8x2048) ![0, n] ![8, 256] hy).emb (ix2 p q) = ix2 p ⟨n + q.val, by omega⟩ := by
    funext c
    refine Fin.ext ?_
    match c with
    | ⟨0, _⟩ => exact (congrArg (0 + ·) (Nat.one_mul _)).trans (Nat.zero_add _)
    | ⟨1, _⟩ => exact congrArg (n + ·) (Nat.one_mul _)
  rw [hemb]
  refine (sums_at _ p q).trans (Finset.sum_congr rfl fun k _ => ?_)
  have hk := k.isLt
  rw [ld_ix2 W n 0 g q k (by omega) (by omega)]
  congr 3
  exact Fin.ext (Nat.zero_add _)

/-- The first grid point's stores of column sums, the last one first. -/
def stored (W : Vec Ideal S2048x7168 .i8) : List (View.Piece (Elt Ideal) S8x2048 .i32) :=
  [⟨Rect.unit ![0, 1792] ![8, 256] inb_S8x2048_S8x256_0_1792, k0_pay12 (k0_pay11 k0_pay2 (View.ld W (Rect.unit ![1792, 0] ![256, 7168] inb_S2048x7168_S256x7168_1792_0)))⟩,
    ⟨Rect.unit ![0, 1536] ![8, 256] inb_S8x2048_S8x256_0_1536, k0_pay10 k0_pay2 (View.ld W (Rect.unit ![1536, 0] ![256, 7168] inb_S2048x7168_S256x7168_1536_0))⟩,
    ⟨Rect.unit ![0, 1280] ![8, 256] inb_S8x2048_S8x256_0_1280, k0_pay9 k0_pay2 (View.ld W (Rect.unit ![1280, 0] ![256, 7168] inb_S2048x7168_S256x7168_1280_0))⟩,
    ⟨Rect.unit ![0, 1024] ![8, 256] inb_S8x2048_S8x256_0_1024, k0_pay8 k0_pay2 (View.ld W (Rect.unit ![1024, 0] ![256, 7168] inb_S2048x7168_S256x7168_1024_0))⟩,
    ⟨Rect.unit ![0, 768] ![8, 256] inb_S8x2048_S8x256_0_768, k0_pay7 (k0_pay6 (View.ld W (Rect.unit ![768, 0] ![256, 7168] inb_S2048x7168_S256x7168_768_0)))⟩,
    ⟨Rect.unit ![0, 512] ![8, 256] inb_S8x2048_S8x256_0_512, k0_pay5 (View.ld W (Rect.unit ![512, 0] ![256, 7168] inb_S2048x7168_S256x7168_512_0))⟩,
    ⟨Rect.unit ![0, 256] ![8, 256] inb_S8x2048_S8x256_0_256, k0_pay4 (View.ld W (Rect.unit ![256, 0] ![256, 7168] inb_S2048x7168_S256x7168_256_0))⟩,
    ⟨Rect.unit ![0, 0] ![8, 256] inb_S8x2048_S8x256_0_0, k0_pay3 (View.ld W (Rect.unit ![0, 0] ![256, 7168] inb_S2048x7168_S256x7168_0_0))⟩]

/-- They leave the column sums. -/
theorem canon_stored (W : Vec Ideal S2048x7168 .i8) (y : S8x2048.Idx) : View.canon (stored W) y = colSums W y := by
  refine canon_of_piecesOf (s := S8x2048) (e := .i32) (colSums W) _ ?_ y (View.cover_of_tiledL (s := S8x2048) (stored W) S8x256.size (by sl_kernel_rfl) y)
  refine ⟨?_, ?_, ?_, ?_, ?_, ?_, ?_, ?_, trivial⟩
  · exact sums_ld W 1792 (by norm_num) _ inb_S8x2048_S8x256_0_1792
  · exact sums_ld W 1536 (by norm_num) _ inb_S8x2048_S8x256_0_1536
  · exact sums_ld W 1280 (by norm_num) _ inb_S8x2048_S8x256_0_1280
  · exact sums_ld W 1024 (by norm_num) _ inb_S8x2048_S8x256_0_1024
  · exact sums_ld W 768 (by norm_num) _ inb_S8x2048_S8x256_0_768
  · exact sums_ld W 512 (by norm_num) _ inb_S8x2048_S8x256_0_512
  · exact sums_ld W 256 (by norm_num) _ inb_S8x2048_S8x256_0_256
  · exact sums_ld W 0 (by norm_num) _ inb_S8x2048_S8x256_0_0

/-- A load of the scratch buffer after those stores reads the column sums. -/
theorem readCov_stored (v : View sig .tc .vmem S8x2048 .i32) (W : Vec Ideal S2048x7168 .i8) (r : Rect S8x2048) :
    v.readCov (stored W) r.toLoadRect = View.ld (colSums W) r := by
  rw [View.readCov_eq_canon']
  funext j
  exact canon_stored W _

/-- The first grid point leaves the column sums in the scratch buffer. -/
theorem sout_A (c : Dev nD) (i : grid0.Coords) (arg1 : Memref sig .tc .smem S1 .i32) (harg1 : arg1.IsWhole) (arg2 : Memref sig .tc .smem S1 .i32) (harg2 : arg2.IsWhole) (arg3 : Memref sig .tc .vmem S512x7168 .i8) (harg3 : arg3.IsWhole) (arg4 : Memref sig .tc .vmem S2048x7168 .i8) (harg4 : arg4.IsWhole) (arg5 : Memref sig .tc .vmem S1x2048 .i32) (harg5 : arg5.IsWhole) (arg6 : Memref sig .tc .vmem S1x2048 .i32) (harg6 : arg6.IsWhole) (arg7 : Memref sig .tc .vmem S1x2048 .i32) (harg7 : arg7.IsWhole) (arg8 : Memref sig .tc .vmem S512x2048 .i8) (harg8 : arg8.IsWhole) (arg9 : Memref sig .tc .vmem S8x2048 .i32) (harg9 : arg9.IsWhole) (hc0 : cond0_0 i)
    (x0 : Vec Ideal S1 .i32) (x1 : Vec Ideal S1 .i32) (x2 : Vec Ideal S512x7168 .i8) (x3 : Vec Ideal S2048x7168 .i8) (x4 : Vec Ideal S1x2048 .i32) (x5 : Vec Ideal S1x2048 .i32) (x6 : Vec Ideal S1x2048 .i32) (y : S8x2048.Idx) :
    sout0_A_0 c i arg1 harg1 arg2 harg2 arg3 harg3 arg4 harg4 arg5 harg5 arg6 harg6 arg7 harg7 arg8 harg8 arg9 harg9 hc0 x0 x1 x2 x3 x4 x5 x6 y = colSums x3 y := by
  frame_out
  exact canon_stored x3 y

/-- What the first grid point leaves in the output block. -/
theorem out_A (c : Dev nD) (i : grid0.Coords) (arg1 : Memref sig .tc .smem S1 .i32) (harg1 : arg1.IsWhole) (arg2 : Memref sig .tc .smem S1 .i32) (harg2 : arg2.IsWhole) (arg3 : Memref sig .tc .vmem S512x7168 .i8) (harg3 : arg3.IsWhole) (arg4 : Memref sig .tc .vmem S2048x7168 .i8) (harg4 : arg4.IsWhole) (arg5 : Memref sig .tc .vmem S1x2048 .i32) (harg5 : arg5.IsWhole) (arg6 : Memref sig .tc .vmem S1x2048 .i32) (harg6 : arg6.IsWhole) (arg7 : Memref sig .tc .vmem S1x2048 .i32) (harg7 : arg7.IsWhole) (arg8 : Memref sig .tc .vmem S512x2048 .i8) (harg8 : arg8.IsWhole) (arg9 : Memref sig .tc .vmem S8x2048 .i32) (harg9 : arg9.IsWhole) (hc0 : cond0_0 i)
    (x0 : Vec Ideal S1 .i32) (x1 : Vec Ideal S1 .i32) (x2 : Vec Ideal S512x7168 .i8) (x3 : Vec Ideal S2048x7168 .i8) (x4 : Vec Ideal S1x2048 .i32) (x5 : Vec Ideal S1x2048 .i32) (x6 : Vec Ideal S1x2048 .i32) (y : S512x2048.Idx) :
    out0_A_7 c i arg1 harg1 arg2 harg2 arg3 harg3 arg4 harg4 arg5 harg5 arg6 harg6 arg7 harg7 arg8 harg8 arg9 harg9 hc0 x0 x1 x2 x3 x4 x5 x6 y
      = blockEntry x2 x3 x4 (x0 (ix1 0)) (colSums x3) x5 x6 (x1 (ix1 0)) y := by
  have hx0 : ∀ (x : Vec Ideal S1 .i32) h, View.ld x (Rect.unit ![0] ![1] inb_S1_S1_0) (Shape.Idx.first h) = x (ix1 0) := by
    intro x h
    refine congrArg x (funext fun c => Fin.ext ?_)
    match c with
    | ⟨0, _⟩ => rfl
  have hs := readCov_stored arg9.view x3
  unfold stored at hs
  rw [← hx0 x0 (by decide), ← hx0 x1 (by decide)]
  frame_out
  simp only [hs]
  refine canon_of_piecesOf (s := S512x2048) (e := .i8) (blockEntry x2 x3 x4 _ (colSums x3) x5 x6 _) _ ?_ y
    (View.cover_of_tiledL (s := S512x2048) _ S512x256.size (by sl_kernel_rfl) y)
  refine ⟨?_, ?_, ?_, ?_, ?_, ?_, ?_, ?_, trivial⟩
  · exact chunk_ld x2 x3 x4 _ (colSums x3) x5 x6 _ 1792 (by norm_num) _ _ _ _ _ _ _ _ _ _ _ _ _ _ _ _ inb_S512x2048_S512x256_0_1792
  · exact chunk_ld x2 x3 x4 _ (colSums x3) x5 x6 _ 1536 (by norm_num) _ _ _ _ _ _ _ _ _ _ _ _ _ _ _ _ inb_S512x2048_S512x256_0_1536
  · exact chunk_ld x2 x3 x4 _ (colSums x3) x5 x6 _ 1280 (by norm_num) _ _ _ _ _ _ _ _ _ _ _ _ _ _ _ _ inb_S512x2048_S512x256_0_1280
  · exact chunk_ld x2 x3 x4 _ (colSums x3) x5 x6 _ 1024 (by norm_num) _ _ _ _ _ _ _ _ _ _ _ _ _ _ _ _ inb_S512x2048_S512x256_0_1024
  · exact chunk_ld x2 x3 x4 _ (colSums x3) x5 x6 _ 768 (by norm_num) _ _ _ _ _ _ _ _ _ _ _ _ _ _ _ _ inb_S512x2048_S512x256_0_768
  · exact chunk_ld x2 x3 x4 _ (colSums x3) x5 x6 _ 512 (by norm_num) _ _ _ _ _ _ _ _ _ _ _ _ _ _ _ _ inb_S512x2048_S512x256_0_512
  · exact chunk_ld x2 x3 x4 _ (colSums x3) x5 x6 _ 256 (by norm_num) _ _ _ _ _ _ _ _ _ _ _ _ _ _ _ _ inb_S512x2048_S512x256_0_256
  · exact chunk_ld x2 x3 x4 _ (colSums x3) x5 x6 _ 0 (by norm_num) _ _ _ _ _ _ _ _ _ _ _ _ _ _ _ _ inb_S512x2048_S512x256_0_0

end Cert.KernelIdeal.Hand
end
-- ==== Proof.Array.lean ====
/-
  The kernel's result array at an entry, over the arguments: which rows and columns a grid point's windows hold, what it carries, and the
  output entry that comes of them.
-/
module

public import proofs.«01_k».proof.Proof.Scratch
public import proofs.«01_k».proof.Proof.Gen.KernelIdeal.Value
public import Idealize.ShloMosaic.Lib.Claim
public import Idealize.ShloMosaic.Lib.Pipeline.ValueKit.Point

@[expose] public section

set_option maxRecDepth 16384
noncomputable section

namespace Cert.KernelIdeal.Hand

open Idealize.ShloMosaic Idealize.ShloMosaic.TcCoe Idealize.SL Idealize.SL.Sem Cert.KernelIdeal Cert.KernelIdeal.Gen Cert.Hand

variable (m : (ℓ : Loc nD τ sig) → Buf (Elt Ideal) ℓ)

/-- The blocks the input windows hold at a grid point: one scalar, the point's rows, everything. -/
theorem index_facts : ∀ t : Fin cfg0.N, win0_0.index t (0 : Fin 1) = 0 ∧ win0_1.index t (0 : Fin 1) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Every grid point sees the whole of the weights. -/
theorem weights_blk (c : Dev nD) (t : Fin cfg0.N) :
    (iblk m c 3 t : Vec Ideal S2048x7168 .i8) = m ((c : Thread nD τ).loc main_arg2) := by
  have e := index_facts t
  funext y
  blk_ext! [iblk, V, e]

/-- A grid point sees 512 rows of the activations. -/
theorem rows_blk (c : Dev nD) (t : Fin cfg0.N) (p : Fin 512) (k : Fin 7168) (b : Fin 24) (s : Fin 1024)
    (h : t.val * 512 + p.val = b.val * 1024 + s.val) :
    (iblk m c 2 t : Vec Ideal S512x7168 .i8) (ix2 p k) = m ((c : Thread nD τ).loc main_arg0) (ix3 b s k) := by
  have e := index_facts t
  blk_ext! [iblk, V, e]

/-- Every grid point sees the activations' zero point. -/
theorem xzp_blk (c : Dev nD) (t : Fin cfg0.N) :
    (iblk m c 0 t : Vec Ideal S1 .i32) (ix1 0) = m ((c : Thread nD τ).loc main_arg1) ix0 := by
  have e := index_facts t
  blk_ext! [iblk, V, e]

/-- Every grid point sees the outputs' zero point. -/
theorem yzp_blk (c : Dev nD) (t : Fin cfg0.N) :
    (iblk m c 1 t : Vec Ideal S1 .i32) (ix1 0) = m ((c : Thread nD τ).loc main_arg6) ix0 := by
  have e := index_facts t
  blk_ext! [iblk, V, e]

/-- Every grid point sees the whole of the bias. -/
theorem bias_blk (c : Dev nD) (t : Fin cfg0.N) (n : Fin 2048) :
    (iblk m c 4 t : Vec Ideal S1x2048 .i32) (ix2 0 n) = m ((c : Thread nD τ).loc main_arg3) (ix1 n) := by
  have e := index_facts t
  blk_ext! [iblk, V, e]

/-- Every grid point sees all the multipliers. -/
theorem mult_blk (c : Dev nD) (t : Fin cfg0.N) (n : Fin 2048) :
    (iblk m c 5 t : Vec Ideal S1x2048 .i32) (ix2 0 n) = m ((c : Thread nD τ).loc main_arg4) (ix1 n) := by
  have e := index_facts t
  blk_ext! [iblk, V, e]

/-- Every grid point sees all the shifts. -/
theorem shift_blk (c : Dev nD) (t : Fin cfg0.N) (n : Fin 2048) :
    (iblk m c 6 t : Vec Ideal S1x2048 .i32) (ix2 0 n) = m ((c : Thread nD τ).loc main_arg5) (ix1 n) := by
  have e := index_facts t
  blk_ext! [iblk, V, e]

/-- The first grid point leaves the column sums of the weights in the scratch buffer. -/
theorem carried_first (c : Dev nD) (t : Fin cfg0.N) (h0 : t.val % 48 = 0) :
    (outsAt0 m c t.val t.isLt).2 = colSums (m ((c : Thread nD τ).loc main_arg2)) := by
  rw [outsAt0_A m c t h0]
  funext y
  dsimp only
  rw [sout_A, weights_blk]

/-- The scratch buffer holds the column sums of the weights after every grid point. -/
theorem carried (c : Dev nD) : ∀ (n : ℕ) (hn : n < cfg0.N), (outsAt0 m c n hn).2 = colSums (m ((c : Thread nD τ).loc main_arg2))
  | 0, hn => carried_first m c ⟨0, hn⟩ (Nat.zero_mod _)
  | n + 1, hn => by
    have hN := lt_of_lt_of_eq hn (show cfg0.N = 48 from N_0)
    have h := congrArg Prod.snd (outsAt0_B m c ⟨n + 1, hn⟩ (show ¬(n + 1) % 48 = 0 by omega))
    exact h.trans (carried c n _)

/-- What a grid point leaves in the output window. -/
theorem left (c : Dev nD) (t : Fin cfg0.N) (y : S512x2048.Idx) :
    (outsAt0 m c t.val t.isLt).1 y = blockEntry (iblk m c 2 t) (m ((c : Thread nD τ).loc main_arg2)) (iblk m c 4 t)
      ((iblk m c 0 t : Vec Ideal S1 .i32) (ix1 0)) (colSums (m ((c : Thread nD τ).loc main_arg2))) (iblk m c 5 t) (iblk m c 6 t)
      ((iblk m c 1 t : Vec Ideal S1 .i32) (ix1 0)) y := by
  by_cases h0 : t.val % 48 = 0
  · rw [outsAt0_A m c t h0]
    dsimp only
    rw [out_A, weights_blk]
  · rw [outsAt0_B m c t h0]
    dsimp only
    rw [out_B, weights_blk, carried]

/-- The accumulator of a batch, a position and a column, over the arguments. -/
def accArg (x : Vec Ideal S24x1024x7168 .i8) (xz : Vec Ideal S_ .i32) (w : Vec Ideal S2048x7168 .i8) (bias : Vec Ideal S2048 .i32)
    (b : Fin 24) (s : Fin 1024) (n : Fin 2048) : BitVec 32 :=
  (∑ k : Fin 7168, BitVec.signExtend 32 (x (ix3 b s k)) * BitVec.signExtend 32 (w (ix2 n k)))
    + (bias (ix1 n) - xz ix0 * ∑ k : Fin 7168, BitVec.signExtend 32 (w (ix2 n k)))

/-- The kernel's result entry over the arguments. -/
def kernelEntry (x : Vec Ideal S24x1024x7168 .i8) (xz : Vec Ideal S_ .i32) (w : Vec Ideal S2048x7168 .i8) (bias b e : Vec Ideal S2048 .i32)
    (yz : Vec Ideal S_ .i32) (g : Fin 24) (s : Fin 1024) (n : Fin 2048) : BitVec 8 :=
  clip8 (kScaled (accArg x xz w bias g s n) (b (ix1 n)) (e (ix1 n))) (yz ix0)

/-- A grid point's output entry is the kernel's entry over the arguments, once its windows are read. -/
theorem blockEntry_eq (x : Vec Ideal S24x1024x7168 .i8) (xz : Vec Ideal S_ .i32) (w : Vec Ideal S2048x7168 .i8) (bias b e : Vec Ideal S2048 .i32)
    (yz : Vec Ideal S_ .i32) (g : Fin 24) (s : Fin 1024) (X : Vec Ideal S512x7168 .i8) (W : Vec Ideal S2048x7168 .i8)
    (B M E : Vec Ideal S1x2048 .i32) (zp zy : Elt Ideal .i32) (y : S512x2048.Idx) (n : Fin 2048) (hn : y 1 = n)
    (hX : ∀ k, X (ix2 (y 0) k) = x (ix3 g s k)) (hW : W = w) (hB : B (ix2 0 n) = bias (ix1 n)) (hM : M (ix2 0 n) = b (ix1 n))
    (hE : E (ix2 0 n) = e (ix1 n)) (hz : zp = xz ix0) (hy : zy = yz ix0) :
    blockEntry X W B zp (colSums w) M E zy y = kernelEntry x xz w bias b e yz g s n := by
  subst hn hW hz hy
  unfold blockEntry accEntry kernelEntry accArg
  simp only [hX, hB, hM, hE]
  rfl

/-- The kernel's result array, entry by entry. -/
theorem result_at (c : Dev nD) (i : S24576x2048.Idx) :
    Value.G7 m c i = kernelEntry (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) ⟨(i 0).val / 1024, by have := (i 0).isLt; simp at this; omega⟩
      ⟨(i 0).val % 1024, Nat.mod_lt _ (by decide)⟩ (i 1) := by
  have hi0 : (i 0).val < 24576 := (i 0).isLt
  have hi1 : (i 1).val < 2048 := (i 1).isLt
  have hN : cfg0.N = 48 := N_0
  have hp : Value.pt7Of i = (i 0).val / 512 := by
    show 1 * ((i 0).val / 512 - 0) + 1 * ((i 1).val / 2048 - 0) = _
    omega
  have hlt : Value.pt7Of i < cfg0.N := by omega
  unfold Value.G7
  rw [dif_pos hlt, ← Value.outsAt0_sweep m c (Value.pt7Of i) hlt]
  refine (left m c ⟨Value.pt7Of i, hlt⟩ (Value.loc7Of i)).trans ?_
  refine blockEntry_eq _ _ _ _ _ _ _ _ _ _ _ _ _ _ _ _ _ _ (Fin.ext (Nat.mod_eq_of_lt hi1)) (fun k => ?_) rfl (bias_blk m c _ _)
    (mult_blk m c _ _) (shift_blk m c _ _) (xzp_blk m c _) (yzp_blk m c _)
  refine rows_blk m c ⟨Value.pt7Of i, hlt⟩ (Value.loc7Of i 0) k _ _ ?_
  show Value.pt7Of i * 512 + (i 0).val % 512 = (i 0).val / 1024 * 1024 + (i 0).val % 1024
  rw [hp]
  omega

end Cert.KernelIdeal.Hand

end
-- ==== Proof.Ref.lean ====
/-
  The reference's result array at an entry, over the arguments.
-/
module

public import proofs.«01_k».proof.Proof.Requant
public import proofs.«01_k».proof.Proof.Words
public import proofs.«01_k».proof.Proof.Gen.ReferenceIdeal.Run
public import Idealize.ShloMosaic.Lib.Pipeline.ValueKit
public import Idealize.ShloMosaic.Lib.Tactic.CleanTypes

@[expose] public section

set_option maxRecDepth 16384
noncomputable section

namespace Cert.ReferenceIdeal.Hand

open Idealize.ShloMosaic Idealize.ShloMosaic.TcCoe Idealize.SL Idealize.SL.Sem Cert.ReferenceIdeal Cert.ReferenceIdeal.Gen Cert.ReferenceIdeal.Value Cert.Hand Idealize.ShloMosaic.StableHlo

/-- The reference's accumulator of a batch, a position and a column, over the arguments. -/
def refAcc (x : IVec S24x1024x7168 8) (xz : IVec S_ 32) (w : IVec S2048x7168 8) (bias : IVec S2048 32) (g : Fin 24) (s : Fin 1024) (n : Fin 2048) :
    BitVec 32 :=
  (∑ k : Fin 7168, BitVec.signExtend 32 (x (ix3 g s k)) * BitVec.signExtend 32 (w (ix2 n k)))
    - xz ix0 * (∑ k : Fin 7168, BitVec.signExtend 32 (w (ix2 n k))) + bias (ix1 n)

/-- The reference's result entry over the arguments. -/
def refEntry (x : IVec S24x1024x7168 8) (xz : IVec S_ 32) (w : IVec S2048x7168 8) (bias b e : IVec S2048 32) (yz : IVec S_ 32)
    (g : Fin 24) (s : Fin 1024) (n : Fin 2048) : BitVec 8 :=
  (IntOp.minsi 127#32 (IntOp.maxsi 4294967168#32
    (IntOp.addi (rRdbp (rSrdhm (refAcc x xz w bias g s n) (b (ix1 n))) (e (ix1 n))) (yz ix0)))).setWidth 8

/-- The reference's accumulator at an entry, its arguments plain arrays. -/
theorem acc_plain (x : IVec S24x1024x7168 8) (xz : IVec S_ 32) (w : IVec S2048x7168 8) (bias : IVec S2048 32) (g : Fin 24) (s : Fin 1024) (n : Fin 2048) :
    addi (subi (Host.reduce IntOp.addi (muli (broadcastInDim S24x1024x2048x7168 ![0, 1, 2, 3] bcast_S24x1024x1x7168_S24x1024x2048x7168_0_1_2_3 (broadcastInDim S24x1024x1x7168 ![0, 1, 3] bcast_S24x1024x7168_S24x1024x1x7168_0_1_3 (extsi 32 x natLt_8_32))) (broadcastInDim S24x1024x2048x7168 ![0, 1, 2, 3] bcast_S1x1x2048x7168_S24x1024x2048x7168_0_1_2_3 (broadcastInDim S1x1x2048x7168 ![2, 3] bcast_S2048x7168_S1x1x2048x7168_2_3 (extsi 32 w natLt_8_32)))) (constantI S_ 32 0#32) reducesTo_S24x1024x2048x7168_S24x1024x2048_d3 h_S_) (broadcastInDim S24x1024x2048 ![0, 1, 2] bcast_S1x1x2048_S24x1024x2048_0_1_2 (broadcastInDim S1x1x2048 ![2] bcast_S2048_S1x1x2048_2 (muli (broadcastInDim S2048 ![] bcast_S_S2048 xz) (Host.reduce IntOp.addi (extsi 32 w natLt_8_32) (constantI S_ 32 0#32) reducesTo_S2048x7168_S2048_d1 h_S_))))) (broadcastInDim S24x1024x2048 ![0, 1, 2] bcast_S1x1x2048_S24x1024x2048_0_1_2 (broadcastInDim S1x1x2048 ![2] bcast_S2048_S1x1x2048_2 bias)) (ix3 g s n)
    = refAcc x xz w bias g s n := by
  unfold refAcc
  pointwise
  rw [fold_addi, fold_addi]
  rfl

variable (V0 : Valuation τ sig (Elt Ideal))

/-- The reference's accumulator at an entry. -/
theorem acc_at (g : Fin 24) (s : Fin 1024) (n : Fin 2048) : res_main_v17 V0 (ix3 g s n)
    = refAcc (V0 (Proc.devRef .tc main_arg0)) (V0 (Proc.devRef .tc main_arg1)) (V0 (Proc.devRef .tc main_arg2)) (V0 (Proc.devRef .tc main_arg3)) g s n := by
  unfold res_main_v17
  exact acc_plain _ _ _ _ g s n

/-- The sign of the accumulator. -/
theorem v19_at (j : S24x1024x2048.Idx) : res_main_v19 V0 j = IntOp.cmpi .slt (res_main_v17 V0 j) 0#32 := by
  unfold res_main_v19
  generalize res_main_v17 V0 = A
  rfl

/-- The magnitude as a vector. -/
theorem v22_eq : res_main_v22 V0 = select (res_main_v19 V0) (negi (res_main_v17 V0)) (res_main_v17 V0) := by
  unfold res_main_v22
  rw [id_eq]

/-- The multipliers read as unsigned words are the multipliers. -/
theorem v23_eq : res_main_v23 V0 = V0 (Proc.devRef .tc main_arg4) := by
  unfold res_main_v23
  rw [id_eq]

/-- A choice between a vector and its negation, at an entry. -/
theorem select_neg (B : IVec S24x1024x2048 1) (A : IVec S24x1024x2048 32) (j : S24x1024x2048.Idx) :
    select B (negi A) A j = Scalar.select (B j) (-A j) (A j) := rfl

/-- The magnitude of the accumulator. -/
theorem v22_at (j : S24x1024x2048.Idx) : res_main_v22 V0 j = rAbs (res_main_v17 V0 j) := by
  have h : (res_main_v22 V0 j : BitVec 32)
      = Scalar.select (res_main_v19 V0 j) (Neg.neg (α := BitVec 32) (res_main_v17 V0 j)) (res_main_v17 V0 j) := by
    rw [v22_eq]
    exact select_neg _ _ j
  rw [h, v19_at]
  unfold rAbs
  with_reducible rfl

/-- The mask of the bits shifted out. -/
theorem v70_at (j : S2048.Idx) : res_main_v70 V0 j = rMask (V0 (Proc.devRef .tc main_arg5) j) := by
  unfold res_main_v70
  rfl

/-- The product of the low halves. -/
theorem v34_at (g : Fin 24) (s : Fin 1024) (n : Fin 2048) : res_main_v34 V0 (ix3 g s n)
    = rLL (res_main_v17 V0 (ix3 g s n)) (V0 (Proc.devRef .tc main_arg4) (ix1 n)) := by
  unfold res_main_v34 rLL
  rw [← v22_at]
  unfold res_main_v27 res_main_v31
  rw [v23_eq]
  generalize res_main_v22 V0 = X22
  generalize V0 (Proc.devRef .tc main_arg4) = B
  clean_types
  pointwise

/-- The mixed products. -/
theorem v41_at (g : Fin 24) (s : Fin 1024) (n : Fin 2048) : res_main_v41 V0 (ix3 g s n)
    = rMid (res_main_v17 V0 (ix3 g s n)) (V0 (Proc.devRef .tc main_arg4) (ix1 n)) := by
  unfold res_main_v41 rMid
  rw [← v22_at]
  unfold res_main_v25 res_main_v27 res_main_v29 res_main_v31
  rw [v23_eq]
  generalize res_main_v22 V0 = X22
  generalize V0 (Proc.devRef .tc main_arg4) = B
  clean_types
  pointwise

/-- The low word. -/
theorem v47_at (g : Fin 24) (s : Fin 1024) (n : Fin 2048) : res_main_v47 V0 (ix3 g s n)
    = rLo (res_main_v17 V0 (ix3 g s n)) (V0 (Proc.devRef .tc main_arg4) (ix1 n)) := by
  unfold res_main_v47 rLo
  rw [← v34_at, ← v41_at]
  generalize res_main_v34 V0 = X34
  generalize res_main_v41 V0 = X41
  clean_types
  pointwise

/-- The low word, rounded. -/
theorem v55_at (g : Fin 24) (s : Fin 1024) (n : Fin 2048) : res_main_v55 V0 (ix3 g s n)
    = rLo2 (res_main_v17 V0 (ix3 g s n)) (V0 (Proc.devRef .tc main_arg4) (ix1 n)) := by
  unfold res_main_v55 rLo2
  rw [← v47_at, ← v19_at]
  generalize res_main_v47 V0 = X47
  generalize res_main_v19 V0 = X19
  clean_types
  pointwise

/-- The magnitude of the scaled accumulator. -/
theorem v64_at (g : Fin 24) (s : Fin 1024) (n : Fin 2048) : res_main_v64 V0 (ix3 g s n)
    = rQ (res_main_v17 V0 (ix3 g s n)) (V0 (Proc.devRef .tc main_arg4) (ix1 n)) := by
  unfold res_main_v64 rQ rHi2
  rw [id_eq]
  rw [← v22_at, ← v34_at, ← v41_at, ← v47_at, ← v55_at]
  unfold res_main_v25 res_main_v29
  rw [v23_eq]
  generalize res_main_v22 V0 = X22
  generalize res_main_v34 V0 = X34
  generalize res_main_v41 V0 = X41
  generalize res_main_v47 V0 = X47
  generalize res_main_v55 V0 = X55
  generalize V0 (Proc.devRef .tc main_arg4) = B
  clean_types
  pointwise

/-- The scaled accumulator. -/
theorem v66_at (g : Fin 24) (s : Fin 1024) (n : Fin 2048) : res_main_v66 V0 (ix3 g s n)
    = rSrdhm (res_main_v17 V0 (ix3 g s n)) (V0 (Proc.devRef .tc main_arg4) (ix1 n)) := by
  unfold res_main_v66 rSrdhm
  rw [← v64_at, ← v19_at]
  generalize res_main_v64 V0 = X64
  generalize res_main_v19 V0 = X19
  clean_types
  pointwise

/-- The reference's steps after the scaled accumulators `h`: shifts `e`, masks `k`, zero point `yz`. -/
def tail (h : IVec S24x1024x2048 32) (e k : IVec S2048 32) (yz : IVec S_ 32) : IVec S24576x2048 8 :=
  shapeCast S24576x2048 (trunci 8 (minsi (broadcastInDim S24x1024x2048 ![] bcast_S_S24x1024x2048 (id (constantI S_ 32 127#32))) (maxsi (broadcastInDim S24x1024x2048 ![] bcast_S_S24x1024x2048 (id (constantI S_ 32 4294967168#32))) (addi (addi (Host.shrsi h (broadcastInDim S24x1024x2048 ![0, 1, 2] bcast_S1x1x2048_S24x1024x2048_0_1_2 (broadcastInDim S1x1x2048 ![2] bcast_S2048_S1x1x2048_2 e))) (extui 32 (cmpi .sgt (andi h (broadcastInDim S24x1024x2048 ![0, 1, 2] bcast_S1x1x2048_S24x1024x2048_0_1_2 (broadcastInDim S1x1x2048 ![2] bcast_S2048_S1x1x2048_2 k))) (addi (broadcastInDim S24x1024x2048 ![0, 1, 2] bcast_S1x1x2048_S24x1024x2048_0_1_2 (broadcastInDim S1x1x2048 ![2] bcast_S2048_S1x1x2048_2 (Host.shrsi k (broadcastInDim S2048 ![] bcast_S_S2048 (constantI S_ 32 1#32))))) (extui 32 (cmpi .slt h (broadcastInDim S24x1024x2048 ![] bcast_S_S24x1024x2048 (constantI S_ 32 0#32))) natLt_1_32))) natLt_1_32)) (broadcastInDim S24x1024x2048 ![] bcast_S_S24x1024x2048 yz)))) natLt_8_32) shapeCasts_S24x1024x2048_S24576x2048

/-- Those steps at an entry: divide, add the zero point, clip, narrow. -/
theorem tail_at (h : IVec S24x1024x2048 32) (e k : IVec S2048 32) (yz : IVec S_ 32) (hk : ∀ j, k j = rMask (e j)) (i : S24576x2048.Idx)
    (g : Fin 24) (s : Fin 1024) (n : Fin 2048) (hg : g.val = (i 0).val / 1024) (hs : s.val = (i 0).val % 1024) (hn : n = i 1) :
    tail h e k yz i
      = (IntOp.minsi 127#32 (IntOp.maxsi 4294967168#32 (IntOp.addi (rRdbp (h (ix3 g s n)) (e (ix1 n))) (yz ix0)))).setWidth 8 := by
  have hi : (i 0).val < 24576 := (i 0).isLt
  obtain rfl : g = ⟨(i 0).val / 1024, Nat.div_lt_of_lt_mul hi⟩ := Fin.ext hg
  obtain rfl : s = ⟨(i 0).val % 1024, Nat.mod_lt _ (by decide)⟩ := Fin.ext hs
  subst hn
  unfold tail rRdbp
  rw [← hk, id_eq, id_eq]
  pointwise

/-- The reference's result, entry by entry. -/
theorem result_at (i : S24576x2048.Idx) (g : Fin 24) (s : Fin 1024) (n : Fin 2048) (hg : g.val = (i 0).val / 1024) (hs : s.val = (i 0).val % 1024) (hn : n = i 1) :
    tail (res_main_v66 V0) (V0 (Proc.devRef .tc main_arg5)) (res_main_v70 V0) (V0 (Proc.devRef .tc main_arg6)) i
      = refEntry (V0 (Proc.devRef .tc main_arg0)) (V0 (Proc.devRef .tc main_arg1)) (V0 (Proc.devRef .tc main_arg2)) (V0 (Proc.devRef .tc main_arg3))
          (V0 (Proc.devRef .tc main_arg4)) (V0 (Proc.devRef .tc main_arg5)) (V0 (Proc.devRef .tc main_arg6)) g s n := by
  rw [tail_at _ _ _ _ (v70_at V0) i g s n hg hs hn, v66_at, acc_at]
  unfold refEntry
  with_reducible rfl

end Cert.ReferenceIdeal.Hand

end
-- ==== Proof.Equal.lean ====
/-
  The two results agree at every entry: the accumulators are one integer modulo 2^32, the roundings agree by the requantization's theorem,
  and the clip is the same.
-/
module

public import proofs.«01_k».proof.Defs
public import proofs.«01_k».proof.Proof.Array
public import proofs.«01_k».proof.Proof.Ref

@[expose] public section

set_option maxRecDepth 16384
noncomputable section

namespace Cert.Equal

open Idealize.ShloMosaic Idealize.ShloMosaic.TcCoe Idealize.SL Idealize.SL.Sem Cert.Hand

/-- Adding the folded bias is subtracting the zero point's term and adding the bias. -/
theorem acc_eq (x : IVec ⟨3, ![24, 1024, 7168]⟩ 8) (xz : IVec ⟨0, ![]⟩ 32) (w : IVec ⟨2, ![2048, 7168]⟩ 8) (bias : IVec ⟨1, ![2048]⟩ 32)
    (g : Fin 24) (s : Fin 1024) (n : Fin 2048) :
    Cert.KernelIdeal.Hand.accArg x xz w bias g s n = Cert.ReferenceIdeal.Hand.refAcc x xz w bias g s n := by
  have ring32 : ∀ p b z : BitVec 32, p + (b - z) = p - z + b := fun p b z => by ring
  exact ring32 _ _ _

/-- The kernel's entry is the reference's, for a multiplier that is not negative and a shift between 1 and 31. -/
theorem entry_eq (x : IVec ⟨3, ![24, 1024, 7168]⟩ 8) (xz : IVec ⟨0, ![]⟩ 32) (w : IVec ⟨2, ![2048, 7168]⟩ 8) (bias b e : IVec ⟨1, ![2048]⟩ 32)
    (yz : IVec ⟨0, ![]⟩ 32) (g : Fin 24) (s : Fin 1024) (n : Fin 2048) (hb : 0 ≤ (b (ix1 n)).toInt) (h1 : 1 ≤ (e (ix1 n)).toNat)
    (h2 : (e (ix1 n)).toNat ≤ 31) :
    Cert.KernelIdeal.Hand.kernelEntry x xz w bias b e yz g s n = Cert.ReferenceIdeal.Hand.refEntry x xz w bias b e yz g s n := by
  unfold Cert.KernelIdeal.Hand.kernelEntry Cert.ReferenceIdeal.Hand.refEntry Cert.KernelIdeal.Hand.clip8
  rw [acc_eq, kScaled_eq _ _ _ hb h1 h2]

/-- What the precondition says of one output channel: its multiplier is not negative and its shift is between 1 and 31. -/
theorem pre_at [Cert.Pre_a_fixed_point_multiplier.Facts] (x : IVec ⟨3, ![24, 1024, 7168]⟩ 8) (xz : IVec ⟨0, ![]⟩ 32) (w : IVec ⟨2, ![2048, 7168]⟩ 8)
    (bias b e : IVec ⟨1, ![2048]⟩ 32) (yz : IVec ⟨0, ![]⟩ 32)
    (h : (Cert.Pre_a_fixed_point_multiplier.fn (F := Ideal) x xz w bias b e yz).1 = (fun _ => 1#1)
      ∧ (Cert.Pre_a_fixed_point_multiplier.fn (F := Ideal) x xz w bias b e yz).2 = (fun _ => 1#1)) (n : Fin 2048) :
    0 ≤ (b (ix1 n)).toInt ∧ 1 ≤ (e (ix1 n)).toNat ∧ (e (ix1 n)).toNat ≤ 31 := by
  have hm : IntOp.cmpi .sge (b (ix1 n)) 0#32 = 1#1 := congrFun h.1 (ix1 n)
  have he : IntOp.andi (IntOp.cmpi .sge (e (ix1 n)) 1#32) (IntOp.cmpi .sle (e (ix1 n)) 31#32) = 1#1 := congrFun h.2 (ix1 n)
  have both : ∀ p q : BitVec 1, IntOp.andi p q = 1#1 → p = 1#1 ∧ q = 1#1 := by decide
  obtain ⟨hl, hu⟩ := both _ _ he
  have h0 := IntOp.cmpi_sge.mp hm
  have h1 := IntOp.cmpi_sge.mp hl
  have h2 := IntOp.cmpi_sle.mp hu
  have t0 : (0#32).toInt = 0 := by decide
  have t1 : (1#32).toInt = 1 := by decide
  have t31 : (31#32).toInt = 31 := by decide
  rw [t0] at h0
  rw [t1] at h1
  rw [t31] at h2
  have hc := BitVec.toInt_eq_toNat_cond (e (ix1 n))
  have hlt := (e (ix1 n)).isLt
  refine ⟨h0, ?_, ?_⟩ <;> split at hc <;> omega

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

public import proofs.«01_k».proof.Proof.Gen.KernelIdeal.Value

public import proofs.«01_k».proof.Proof.Gen.ReferenceIdeal.Run
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel runs, leaves its arguments and ends with every semaphore counter at zero. -/
theorem frame_p : Cert.quiescent_Kernel := fun m ρ _ => Cert.Kernel.Gen.frame m ρ

/-- The idealized kernel runs, leaves its arguments and ends with every semaphore counter at zero. -/
theorem frame_pi : Cert.quiescent_KernelIdeal := fun m ρ _ => Cert.KernelIdeal.Gen.frame m ρ

/-- The reference runs, leaves its arguments and ends with every semaphore counter at zero (it declares none). -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- The two result arrays are one array: the kernel's, left by its grid, and the reference's, over arguments that agree. -/
theorem results_eq [Cert.Pre_a_fixed_point_multiplier.Facts]
    (m : (ℓ : Loc Cert.KernelIdeal.nD Cert.KernelIdeal.τ Cert.KernelIdeal.sig) → Buf (Elt Ideal) ℓ)
    (hpre : Cert.Pre_KernelIdeal_a_fixed_point_multiplier m) (c : Dev Cert.KernelIdeal.nD)
    (V0 : Valuation Cert.ReferenceIdeal.τ Cert.ReferenceIdeal.sig (Elt Ideal))
    (h0 : V0 (Proc.devRef .tc Cert.ReferenceIdeal.main_arg0) = m ((c.tc : Thread Cert.KernelIdeal.nD Cert.KernelIdeal.τ).loc Cert.KernelIdeal.main_arg0))
    (h1 : V0 (Proc.devRef .tc Cert.ReferenceIdeal.main_arg1) = m ((c.tc : Thread Cert.KernelIdeal.nD Cert.KernelIdeal.τ).loc Cert.KernelIdeal.main_arg1))
    (h2 : V0 (Proc.devRef .tc Cert.ReferenceIdeal.main_arg2) = m ((c.tc : Thread Cert.KernelIdeal.nD Cert.KernelIdeal.τ).loc Cert.KernelIdeal.main_arg2))
    (h3 : V0 (Proc.devRef .tc Cert.ReferenceIdeal.main_arg3) = m ((c.tc : Thread Cert.KernelIdeal.nD Cert.KernelIdeal.τ).loc Cert.KernelIdeal.main_arg3))
    (h4 : V0 (Proc.devRef .tc Cert.ReferenceIdeal.main_arg4) = m ((c.tc : Thread Cert.KernelIdeal.nD Cert.KernelIdeal.τ).loc Cert.KernelIdeal.main_arg4))
    (h5 : V0 (Proc.devRef .tc Cert.ReferenceIdeal.main_arg5) = m ((c.tc : Thread Cert.KernelIdeal.nD Cert.KernelIdeal.τ).loc Cert.KernelIdeal.main_arg5))
    (h6 : V0 (Proc.devRef .tc Cert.ReferenceIdeal.main_arg6) = m ((c.tc : Thread Cert.KernelIdeal.nD Cert.KernelIdeal.τ).loc Cert.KernelIdeal.main_arg6)) :
    Cert.ReferenceIdeal.Hand.tail (Cert.ReferenceIdeal.Value.res_main_v66 V0) (V0 (Proc.devRef .tc Cert.ReferenceIdeal.main_arg5))
        (Cert.ReferenceIdeal.Value.res_main_v70 V0) (V0 (Proc.devRef .tc Cert.ReferenceIdeal.main_arg6))
      = Cert.KernelIdeal.Value.G7 m c := by
  funext i
  obtain ⟨hb, hl, hu⟩ := Cert.Equal.pre_at _ _ _ _ _ _ _ (hpre c) (i 1)
  have hi : (i 0).val < 24576 := (i 0).isLt
  refine (Cert.ReferenceIdeal.Hand.result_at V0 i ⟨(i 0).val / 1024, Nat.div_lt_of_lt_mul hi⟩ ⟨(i 0).val % 1024, Nat.mod_lt _ (by decide)⟩ (i 1)
    rfl rfl rfl).trans ?_
  rw [h0, h1, h2, h3, h4, h5, h6]
  exact (Cert.Equal.entry_eq _ _ _ _ _ _ _ _ _ _ hb hl hu).symm.trans (Cert.KernelIdeal.Hand.result_at m c i).symm

/-- The side condition the precondition's operations take. -/
theorem pre_facts : Cert.Pre_a_fixed_point_multiplier.Facts := ⟨by decide⟩

/-- The value claim: both programs run, keep their arguments and leave the same result array. -/
theorem value [Cert.Pre_a_fixed_point_multiplier.Facts] : Cert.algebraic_KernelIdeal_ReferenceIdeal_pre_a_fixed_point_multiplier := by
  intro m g m' g' hpre hagree
  refine ⟨fun c => Cert.KernelIdeal.Value.G7 m c, Cert.KernelIdeal.Value.run m g, ?_⟩
  refine (θ_run Cert.ReferenceIdeal.defs _ _).mono (fun r h c => ⟨(h c).1.trans ?_, (h c).2⟩) (Cert.ReferenceIdeal.Value.run m' g')
  obtain ⟨h0, h1, h2, h3, h4, h5, h6⟩ := hagree c
  exact results_eq m hpre c (StableHlo.launchContents m' c) h0 h1 h2 h3 h4 h5 h6

theorem claim : Cert.Claim := ⟨Cert.Kernel.Gen.facts, Cert.KernelIdeal.Gen.facts, Cert.ReferenceIdeal.Gen.facts, pre_facts,
  frame_p, frame_pi, fun m ρ _ => Cert.KernelIdeal.Gen.frame m ρ, frame_ri, fun m ρ _ => frame_ri m ρ _root_.trivial, _root_.trivial,
  letI := pre_facts
  value⟩

end Cert.Proof

end
